-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x1024 : Shape := ⟨2, ![1024, 1024]⟩
abbrev S1024x64 : Shape := ⟨2, ![1024, 64]⟩
abbrev S16x64x64 : Shape := ⟨3, ![16, 64, 64]⟩
abbrev S15 : Shape := ⟨1, ![15]⟩
abbrev S16 : Shape := ⟨1, ![16]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x64, .f32⟩
  | .local _ .vmem, ⟨0, _⟩ => ⟨S64x1024, .f32⟩
  | .local _ .vmem, ⟨1, _⟩ => ⟨S1024x1024, .f32⟩
  | .local _ .vmem, ⟨2, _⟩ => ⟨S1024x64, .f32⟩
  | .local _ .vmem, ⟨3, _⟩ => ⟨S16x64x64, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v133 : Index := Scalar.indexCast v2
  let c0_97 : Index := 0#32
  let c0_98 : Index := 0#32
  ![v133.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v136 : BitVec 32 := Scalar.muli v2 c64_i32
  let v137 : Index := Scalar.indexCast v136
  let c0_99 : Index := 0#32
  ![v137.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_102 : BitVec 32 := 64#32
  let v141 : BitVec 32 := Scalar.muli v2 c64_i32_102
  let c0_i32_106 : BitVec 32 := 0#32
  ![v141.toNat, 0]
def k0_off5 (d0 : Dev nD) (c1_i32_100 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v139 : BitVec 32 := Scalar.addi v2 c1_i32_100
  let c16_i32_101 : BitVec 32 := 16#32
  let v140 : BitVec 32 := Scalar.remsi v139 c16_i32_101
  let c0_i32_107 : BitVec 32 := 0#32
  let c0_i32_108 : BitVec 32 := 0#32
  ![v140.toNat, 0, 0]
def k0_dev16 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_100 : BitVec 32 := 1#32
  let v139 : BitVec 32 := Scalar.addi v2 c1_i32_100
  let c16_i32_101 : BitVec 32 := 16#32
  let v140 : BitVec 32 := Scalar.remsi v139 c16_i32_101
  let c1_i32_104 : BitVec 32 := 1#32
  let v142 : BitVec 32 := Scalar.muli v140 c1_i32_104
  let v143 : BitVec 32 := Scalar.addi c0_i32_105 v142
  v143.toNat
def k0_dev17 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v151 : BitVec 32 := Scalar.addi v2 c2_i32_109
  let c16_i32_110 : BitVec 32 := 16#32
  let v152 : BitVec 32 := Scalar.remsi v151 c16_i32_110
  let c1_i32_113 : BitVec 32 := 1#32
  let v154 : BitVec 32 := Scalar.muli v152 c1_i32_113
  let v155 : BitVec 32 := Scalar.addi c0_i32_114 v154
  v155.toNat
def k0_dev18 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_118 : BitVec 32 := 3#32
  let v163 : BitVec 32 := Scalar.addi v2 c3_i32_118
  let c16_i32_119 : BitVec 32 := 16#32
  let v164 : BitVec 32 := Scalar.remsi v163 c16_i32_119
  let c1_i32_122 : BitVec 32 := 1#32
  let v166 : BitVec 32 := Scalar.muli v164 c1_i32_122
  let v167 : BitVec 32 := Scalar.addi c0_i32_123 v166
  v167.toNat
def k0_dev19 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v175 : BitVec 32 := Scalar.addi v2 c4_i32_127
  let c16_i32_128 : BitVec 32 := 16#32
  let v176 : BitVec 32 := Scalar.remsi v175 c16_i32_128
  let c1_i32_131 : BitVec 32 := 1#32
  let v178 : BitVec 32 := Scalar.muli v176 c1_i32_131
  let v179 : BitVec 32 := Scalar.addi c0_i32_132 v178
  v179.toNat
def k0_dev20 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_136 : BitVec 32 := 5#32
  let v187 : BitVec 32 := Scalar.addi v2 c5_i32_136
  let c16_i32_137 : BitVec 32 := 16#32
  let v188 : BitVec 32 := Scalar.remsi v187 c16_i32_137
  let c1_i32_140 : BitVec 32 := 1#32
  let v190 : BitVec 32 := Scalar.muli v188 c1_i32_140
  let v191 : BitVec 32 := Scalar.addi c0_i32_141 v190
  v191.toNat
def k0_dev21 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_145 : BitVec 32 := 6#32
  let v199 : BitVec 32 := Scalar.addi v2 c6_i32_145
  let c16_i32_146 : BitVec 32 := 16#32
  let v200 : BitVec 32 := Scalar.remsi v199 c16_i32_146
  let c1_i32_149 : BitVec 32 := 1#32
  let v202 : BitVec 32 := Scalar.muli v200 c1_i32_149
  let v203 : BitVec 32 := Scalar.addi c0_i32_150 v202
  v203.toNat
def k0_dev22 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_154 : BitVec 32 := 7#32
  let v211 : BitVec 32 := Scalar.addi v2 c7_i32_154
  let c16_i32_155 : BitVec 32 := 16#32
  let v212 : BitVec 32 := Scalar.remsi v211 c16_i32_155
  let c1_i32_158 : BitVec 32 := 1#32
  let v214 : BitVec 32 := Scalar.muli v212 c1_i32_158
  let v215 : BitVec 32 := Scalar.addi c0_i32_159 v214
  v215.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_163 : BitVec 32 := 8#32
  let v223 : BitVec 32 := Scalar.addi v2 c8_i32_163
  let c16_i32_164 : BitVec 32 := 16#32
  let v224 : BitVec 32 := Scalar.remsi v223 c16_i32_164
  let c1_i32_167 : BitVec 32 := 1#32
  let v226 : BitVec 32 := Scalar.muli v224 c1_i32_167
  let v227 : BitVec 32 := Scalar.addi c0_i32_168 v226
  v227.toNat
def k0_dev24 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_172 : BitVec 32 := 9#32
  let v235 : BitVec 32 := Scalar.addi v2 c9_i32_172
  let c16_i32_173 : BitVec 32 := 16#32
  let v236 : BitVec 32 := Scalar.remsi v235 c16_i32_173
  let c1_i32_176 : BitVec 32 := 1#32
  let v238 : BitVec 32 := Scalar.muli v236 c1_i32_176
  let v239 : BitVec 32 := Scalar.addi c0_i32_177 v238
  v239.toNat
def k0_dev25 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_181 : BitVec 32 := 10#32
  let v247 : BitVec 32 := Scalar.addi v2 c10_i32_181
  let c16_i32_182 : BitVec 32 := 16#32
  let v248 : BitVec 32 := Scalar.remsi v247 c16_i32_182
  let c1_i32_185 : BitVec 32 := 1#32
  let v250 : BitVec 32 := Scalar.muli v248 c1_i32_185
  let v251 : BitVec 32 := Scalar.addi c0_i32_186 v250
  v251.toNat
def k0_dev26 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_190 : BitVec 32 := 11#32
  let v259 : BitVec 32 := Scalar.addi v2 c11_i32_190
  let c16_i32_191 : BitVec 32 := 16#32
  let v260 : BitVec 32 := Scalar.remsi v259 c16_i32_191
  let c1_i32_194 : BitVec 32 := 1#32
  let v262 : BitVec 32 := Scalar.muli v260 c1_i32_194
  let v263 : BitVec 32 := Scalar.addi c0_i32_195 v262
  v263.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_199 : BitVec 32 := 12#32
  let v271 : BitVec 32 := Scalar.addi v2 c12_i32_199
  let c16_i32_200 : BitVec 32 := 16#32
  let v272 : BitVec 32 := Scalar.remsi v271 c16_i32_200
  let c1_i32_203 : BitVec 32 := 1#32
  let v274 : BitVec 32 := Scalar.muli v272 c1_i32_203
  let v275 : BitVec 32 := Scalar.addi c0_i32_204 v274
  v275.toNat
def k0_dev28 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_208 : BitVec 32 := 13#32
  let v283 : BitVec 32 := Scalar.addi v2 c13_i32_208
  let c16_i32_209 : BitVec 32 := 16#32
  let v284 : BitVec 32 := Scalar.remsi v283 c16_i32_209
  let c1_i32_212 : BitVec 32 := 1#32
  let v286 : BitVec 32 := Scalar.muli v284 c1_i32_212
  let v287 : BitVec 32 := Scalar.addi c0_i32_213 v286
  v287.toNat
def k0_dev29 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_217 : BitVec 32 := 14#32
  let v295 : BitVec 32 := Scalar.addi v2 c14_i32_217
  let c16_i32_218 : BitVec 32 := 16#32
  let v296 : BitVec 32 := Scalar.remsi v295 c16_i32_218
  let c1_i32_221 : BitVec 32 := 1#32
  let v298 : BitVec 32 := Scalar.muli v296 c1_i32_221
  let v299 : BitVec 32 := Scalar.addi c0_i32_222 v298
  v299.toNat
def k0_dev30 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_226 : BitVec 32 := 15#32
  let v307 : BitVec 32 := Scalar.addi v2 c15_i32_226
  let c16_i32_227 : BitVec 32 := 16#32
  let v308 : BitVec 32 := Scalar.remsi v307 c16_i32_227
  let c1_i32_230 : BitVec 32 := 1#32
  let v310 : BitVec 32 := Scalar.muli v308 c1_i32_230
  let v311 : BitVec 32 := Scalar.addi c0_i32_231 v310
  v311.toNat
def k0_off6 (d0 : Dev nD) (c1_i32_235 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v319 : BitVec 32 := Scalar.subi v2 c1_i32_235
  let c16_i32_236 : BitVec 32 := 16#32
  let v320 : BitVec 32 := Scalar.addi v319 c16_i32_236
  let c16_i32_237 : BitVec 32 := 16#32
  let v321 : BitVec 32 := Scalar.remsi v320 c16_i32_237
  ![v321.toNat]
def k0_off7 (d0 : Dev nD) (c1_i32_235 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v319 : BitVec 32 := Scalar.subi v2 c1_i32_235
  let c16_i32_236 : BitVec 32 := 16#32
  let v320 : BitVec 32 := Scalar.addi v319 c16_i32_236
  let c16_i32_237 : BitVec 32 := 16#32
  let v321 : BitVec 32 := Scalar.remsi v320 c16_i32_237
  let c64_i32_238 : BitVec 32 := 64#32
  let v322 : BitVec 32 := Scalar.muli v321 c64_i32_238
  let c0_i32_242 : BitVec 32 := 0#32
  ![v322.toNat, 0]
def k0_off8 (d0 : Dev nD) (c1_i32_235 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v319 : BitVec 32 := Scalar.subi v2 c1_i32_235
  let c16_i32_236 : BitVec 32 := 16#32
  let v320 : BitVec 32 := Scalar.addi v319 c16_i32_236
  let c16_i32_237 : BitVec 32 := 16#32
  let v321 : BitVec 32 := Scalar.remsi v320 c16_i32_237
  let c0_i32_243 : BitVec 32 := 0#32
  let c0_i32_244 : BitVec 32 := 0#32
  ![v321.toNat, 0, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
/- The sixteen devices in a circle: "`n + 1` places on" and "`n + 1` places back", and two tools used
   throughout: a conjunction over the fifteen peers worked through one peer at a time, and a sum
   worked through the same way. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode

/-! ## The circle -/

/-- The device `n + 1` places after `c`. -/
def sh (c : Dev nD) (n : ℕ) : Dev nD := ⟨(c.val + (n + 1)) % 16, Nat.mod_lt _ (by decide)⟩

/-- The device `n + 1` places before `c` (for `n < 15`). -/
def src (c : Dev nD) (n : ℕ) : Dev nD := ⟨((c.val + 15) - n) % 16, Nat.mod_lt _ (by decide)⟩

theorem dev_lt (c : Dev nD) : c.val < 16 := c.isLt

/-- Going back undoes going on, and the other way round. -/
theorem sh_src (c : Dev nD) (j : Fin 15) : sh (src c j.val) j.val = c := by
  have hc := dev_lt c; have hj := j.isLt
  apply Fin.ext; simp only [sh, src]; omega
theorem src_sh (c : Dev nD) (j : Fin 15) : src (sh c j.val) j.val = c := by
  have hc := dev_lt c; have hj := j.isLt
  apply Fin.ext; simp only [sh, src]; omega

/-- `n + 1` places back is `15 - n` places on. -/
theorem sh_rev (c : Dev nD) (j : Fin 15) : sh c j.rev.val = src c j.val := by
  have hc := dev_lt c; have hj := j.isLt
  apply Fin.ext; simp only [sh, src, Fin.val_rev]; omega

/-- A peer is another device. -/
theorem sh_ne (c : Dev nD) (j : Fin 15) : sh c j.val ≠ c := by
  intro h
  have hc := dev_lt c; have hj := j.isLt
  have := congrArg Fin.val h; simp only [sh] at this; omega
theorem src_ne (c : Dev nD) (j : Fin 15) : src c j.val ≠ c := by
  rw [← sh_rev]; exact sh_ne c j.rev

/-- Different steps lead to different peers. -/
theorem sh_inj (c : Dev nD) : Function.Injective fun j : Fin 15 => sh c j.val := by
  intro i j h
  have hc := dev_lt c; have hi := i.isLt; have hj := j.isLt
  have := congrArg Fin.val h; simp only [sh] at this
  apply Fin.ext; omega
theorem src_inj (c : Dev nD) : Function.Injective fun j : Fin 15 => src c j.val := by
  intro i j h
  simp only [← sh_rev] at h
  exact Fin.rev_injective (sh_inj c h)

/-- `c` is the device `j + 1` places after `d` exactly when `d` is the one `j + 1` places before `c`. -/
theorem sh_eq_iff (d c : Dev nD) (j : Fin 15) : sh d j.val = c ↔ d = src c j.val :=
  ⟨fun h => by rw [← h, src_sh], fun h => by rw [h, sh_src]⟩

/-- Every device but `c` is one of its fifteen peers. -/
theorem erase_eq (c : Dev nD) : Finset.univ.erase c = Finset.univ.map ⟨fun j : Fin 15 => sh c j.val, sh_inj c⟩ := by
  symm
  apply Finset.eq_of_subset_of_card_le
  · intro d hd
    obtain ⟨j, -, rfl⟩ := Finset.mem_map.mp hd
    exact Finset.mem_erase.mpr ⟨sh_ne c j, Finset.mem_univ _⟩
  · rw [Finset.card_map, Finset.card_erase_of_mem (Finset.mem_univ _), Finset.card_univ, Finset.card_univ, Fintype.card_fin, Fintype.card_fin]
    exact Nat.le_refl _

section Sep

variable {M : Type} [URA M]

/-- A conjunction over all the devices is its own device's part and the fifteen peers', the peers counted forwards; -/
theorem bigSep_peers (c : Dev nD) (Φ : Dev nD → sProp M) :
    bigSep Finset.univ Φ = iprop(Φ c ∗ bigSep Finset.univ fun j : Fin 15 => Φ (sh c j.val)) := by
  rw [bigSep_univ_at Φ c, erase_eq c, bigSep_map]; rfl

/-- or backwards. -/
theorem bigSep_peers_back (c : Dev nD) (Φ : Dev nD → sProp M) :
    bigSep Finset.univ Φ = iprop(Φ c ∗ bigSep Finset.univ fun j : Fin 15 => Φ (src c j.val)) := by
  rw [bigSep_peers c, bigSep_univ_equiv Fin.revPerm]
  simp only [Fin.revPerm_apply, sh_rev]

/-- A conjunction over `n` places of which the first `k` are at `A` and the others at `B`. -/
def prog {n : ℕ} (k : ℕ) (A B : Fin n → sProp M) : sProp M :=
  bigSep Finset.univ fun j : Fin n => if j.val < k then A j else B j

theorem prog_zero {n : ℕ} (A B : Fin n → sProp M) : prog 0 A B = bigSep Finset.univ B := by
  unfold prog; simp only [Nat.not_lt_zero, if_false]

theorem prog_all {n : ℕ} (A B : Fin n → sProp M) : prog n A B = bigSep Finset.univ A := by
  unfold prog; simp only [Fin.isLt, if_true]

/-- The next place is taken out at `B`, and put back at `A` one place further. -/
theorem prog_step {n : ℕ} (A B : Fin n → sProp M) (j : Fin n) :
    prog j.val A B ⊢ iprop(B j ∗ (A j -∗ prog (j.val + 1) A B)) := by
  unfold prog
  rw [bigSep_univ_at _ j, bigSep_univ_at (fun i : Fin n => if i.val < j.val + 1 then A i else B i) j,
    if_neg (Nat.lt_irrefl _), if_pos (Nat.lt_succ_self _),
    bigSep_congr (s := Finset.univ.erase j) (Ψ := fun i : Fin n => if i.val < j.val + 1 then A i else B i) fun i hi => by
      have hne : i.val ≠ j.val := fun h => (Finset.mem_erase.mp hi).1 (Fin.ext h)
      by_cases h : i.val < j.val
      · rw [if_pos h, if_pos (by omega)]
      · rw [if_neg h, if_neg (by omega)]]
  iintro ⟨HB, HR⟩
  isplitl [HB]; · iexact HB
  iintro HA
  isplitl [HA] <;> iassumption

/-- The next place is looked at, and put back as it was. -/
theorem prog_back {n : ℕ} (A B : Fin n → sProp M) (j : Fin n) :
    prog j.val A B ⊢ iprop(B j ∗ (B j -∗ prog j.val A B)) := by
  unfold prog
  rw [bigSep_univ_at _ j, if_neg (Nat.lt_irrefl _)]
  iintro ⟨HB, HR⟩
  isplitl [HB]; · iexact HB
  iintro HA
  isplitl [HA] <;> iassumption

end Sep

/-- A sum over `n` places of which the first `k` have gone. -/
def progSum {n : ℕ} {N : Type} [AddCommMonoid N] (k : ℕ) (B : Fin n → N) : N :=
  ∑ j : Fin n, if j.val < k then 0 else B j

theorem progSum_zero {n : ℕ} {N : Type} [AddCommMonoid N] (B : Fin n → N) : progSum 0 B = ∑ j, B j := by
  unfold progSum; simp only [Nat.not_lt_zero, if_false]

theorem progSum_all {n : ℕ} {N : Type} [AddCommMonoid N] (B : Fin n → N) : progSum n B = 0 := by
  unfold progSum; simp only [Fin.isLt, if_true, Finset.sum_const_zero]

/-- The next summand is the last one. -/
theorem progSum_step {n : ℕ} {N : Type} [AddCommMonoid N] (B : Fin n → N) (j : Fin n) :
    progSum j.val B = progSum (j.val + 1) B + B j := by
  unfold progSum
  rw [← Finset.sum_erase_add _ _ (Finset.mem_univ j),
    ← Finset.sum_erase_add _ (fun i : Fin n => if i.val < j.val + 1 then 0 else B i) (Finset.mem_univ j),
    if_neg (Nat.lt_irrefl _), if_pos (Nat.lt_succ_self _), add_zero]
  congr 1
  refine Finset.sum_congr rfl fun i hi => ?_
  have hne : i.val ≠ j.val := fun h => (Finset.mem_erase.mp hi).1 (Fin.ext h)
  by_cases h : i.val < j.val
  · rw [if_pos h, if_pos (by omega)]
  · rw [if_neg h, if_neg (by omega)]

end Cert.Exchange

end

end
-- ==== Proof.Protocol.lean ====
/- The exchange's resources: the blocks of the two buffers it moves, its semaphores, and what each
   credit on a semaphore stands for. -/
module

public import proofs.«01_k».proof.Proof.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's own -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The buffers and their blocks -/

abbrev xM : Memref sig .tc .vmem S64x1024 .f32 := Memref.whole cc0_stg0_0
abbrev wM : Memref sig .tc .vmem S1024x1024 .f32 := Memref.whole cc0_stg1_0
abbrev oM : Memref sig .tc .vmem S1024x64 .f32 := Memref.whole cc0_stg2_0
abbrev yM : Memref sig .tc .vmem S16x64x64 .f32 := Memref.whole cc0_scratch0

theorem yinb (b : Dev nD) : ∀ a, (![b.val, 0, 0] : Fin 3 → ℕ) a + S1x64x64.size a ≤ S16x64x64.size a := by
  revert b; decide
theorem oinb (b : Dev nD) : ∀ a, (![64 * b.val, 0] : Fin 2 → ℕ) a + S64x64.size a ≤ S1024x64.size a := by
  revert b; decide

abbrev yRect (b : Dev nD) : Rect S16x64x64 := Rect.unit (s := S16x64x64) ![b.val, 0, 0] S1x64x64.size (yinb b)
abbrev oRect (b : Dev nD) : Rect S1024x64 := Rect.unit (s := S1024x64) ![64 * b.val, 0] S64x64.size (oinb b)

/-- Member `b` of the stack of products, as a matrix. -/
abbrev yBlk (b : Dev nD) : Memref sig .tc .vmem S64x64 .f32 :=
  (yM.slice (yRect b) (fun _ => rfl)).squeeze S64x64 squeezes_S1x64x64_S64x64
/-- Rows `64 b` to `64 b + 63` of the result. -/
abbrev oBlk (b : Dev nD) : Memref sig .tc .vmem S64x64 .f32 := oM.slice (oRect b) (fun _ => rfl)

/-- The kernel's own spellings of these blocks, at offsets it computes, are these blocks. -/
theorem yBlk_of {off : Fin 3 → ℕ} {b : Dev nD} (he : off = ![b.val, 0, 0]) (h : ∀ a, off a + S1x64x64.size a ≤ S16x64x64.size a) :
    (yM.slice (Rect.unit (s := S16x64x64) off S1x64x64.size h) (fun _ => rfl)).squeeze S64x64 squeezes_S1x64x64_S64x64 = yBlk b := by
  subst he; rfl
theorem oBlk_of {off : Fin 2 → ℕ} {b : Dev nD} (he : off = ![64 * b.val, 0]) (h : ∀ a, off a + S64x64.size a ≤ S1024x64.size a) :
    oM.slice (Rect.unit (s := S1024x64) off S64x64.size h) (fun _ => rfl) = oBlk b := by
  subst he; rfl

/-! ## The semaphores -/

/-- The runtime's barrier semaphore, the fifteen send semaphores, the sixteen receive semaphores. -/
abbrev barS : Sem sig := (SemArray.scalar (sig.barrier 0 rfl) : Sems sig S_).sem
def sendS (j : Fin 15) : DmaSem sig := ⟨3 + j.val, by have := j.isLt; show 3 + j.val < 34; omega⟩
def recvS (d : Dev nD) : DmaSem sig := ⟨18 + d.val, by have := dev_lt d; show 18 + d.val < 34; omega⟩

/-- The one place of a run of length one is where the run starts. -/
theorem unit_one_val (n k : ℕ) (h : ∀ a, (![n] : Fin 1 → ℕ) a + S1.size a ≤ (⟨1, ![k]⟩ : Shape).size a) (i) :
    ((Rect.unit (s := ⟨1, ![k]⟩) ![n] S1.size h).emb i 0).val = n := by
  have hi : (i 0).val = 0 := Nat.lt_one_iff.mp (i 0).isLt
  show n + 1 * (i 0).val = n
  rw [hi]; rfl
theorem sendS_of {off : Fin 1 → ℕ} {j : Fin 15} (he : off = ![j.val]) (h : ∀ a, off a + S1.size a ≤ S15.size a) :
    ((cc0_scratch1.slice (Rect.unit (s := S15) off S1.size h)).squeeze S_ squeezes_S1_S_).sem = sendS j := by
  subst he
  refine Fin.ext ((congrArg (3 + ·) (Shape.rowMajor_val_one _)).trans ?_)
  exact congrArg (3 + ·) (unit_one_val _ _ _ _)
theorem recvS_of {off : Fin 1 → ℕ} {d : Dev nD} (he : off = ![d.val]) (h : ∀ a, off a + S1.size a ≤ S16.size a) :
    ((cc0_scratch2.slice (Rect.unit (s := S16) off S1.size h)).squeeze S_ squeezes_S1_S_).sem = recvS d := by
  subst he
  refine Fin.ext ((congrArg (18 + ·) (Shape.rowMajor_val_one _)).trans ?_)
  exact congrArg (18 + ·) (unit_one_val _ _ _ _)

abbrev barCell (c : Dev nD) : GSem nD τ sig := ((c : Thread nD τ), .reg barS)
abbrev sendCell (c : Dev nD) (j : Fin 15) : GSem nD τ sig := ((c : Thread nD τ), .dma (sendS j))
abbrev recvCell (c : Dev nD) (d : Dev nD) : GSem nD τ sig := ((c : Thread nD τ), .dma (recvS d))

/-- What one block's transfer credits. -/
abbrev N : ℕ := (oBlk 0).view.dmaCredit
theorem N_pos : 0 < N := View.dmaCredit_pos _ (by decide)
theorem credit_o (b : Dev nD) : (oBlk b).view.dmaCredit = N := rfl
theorem credit_y (b : Dev nD) : (yBlk b).view.dmaCredit = N := rfl

/-! ## Contents -/

/-- The rows of the left factor, and the right factor, device `c` is given. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

theorem slices (b : Dev nD) : S64x1024.Slices ![0, 64 * b.val] S64x64 := by revert b; decide

/-- Device `s`'s whole product, and the 64 columns of it that belong to device `b`. -/
def prod (s : Dev nD) : FVec F S64x1024 .f32 := k0_pay1 (xstg m ρ s) (wstg m ρ s)
def part (s b : Dev nD) : FVec F S64x64 .f32 := extractStridedSlice S64x64 ![0, 64 * b.val] (prod m ρ s) (slices b)

/-- Block `b` of device `c`'s stack, and of its result, held at contents `X`, or at any contents. -/
def yHas (c b : Dev nD) (X : FVec F S64x64 .f32) : sProp 𝕄 := owns (c : Thread nD τ) (yBlk b) fullShare X
def oHas (c b : Dev nD) (X : FVec F S64x64 .f32) : sProp 𝕄 := owns (c : Thread nD τ) (oBlk b) fullShare X
def yAny (c b : Dev nD) : sProp 𝕄 := iprop(∃ X, yHas c b X)
def oAny (c b : Dev nD) : sProp 𝕄 := iprop(∃ X, oHas c b X)

omit [FloatOps F] in
instance yHas_storable (c b : Dev nD) (X) : BI.Storable (upEmb : UEmb _ 𝕄) (yHas (F := F) c b X) := by unfold yHas; infer_instance
omit [FloatOps F] in
instance oHas_storable (c b : Dev nD) (X) : BI.Storable (upEmb : UEmb _ 𝕄) (oHas (F := F) c b X) := by unfold oHas; infer_instance
omit [FloatOps F] in
instance oAny_storable (c b : Dev nD) : BI.Storable (upEmb : UEmb _ 𝕄) (oAny (F := F) c b) := by unfold oAny; infer_instance

/-! ## The schedule -/

/-- The signal paying duty `j` of `c`'s barrier comes from the device `j + 1` places before it, and hands
    `c` the rows of that device's result which `c` will fill. -/
def barPay (c : Dev nD) (n : ℕ) : sProp 𝕄 := oAny (src c n) c
/-- A send semaphore gives the sender back the block it was reading, unchanged. -/
def sendPay (c : Dev nD) (n : ℕ) : sProp 𝕄 := yHas c (sh c n) (part m ρ c (sh c n))
/-- A receive semaphore gives the receiver the rows that device `d` filled, holding what `d` computed for it. -/
def recvPay (c d : Dev nD) : sProp 𝕄 := oHas c d (part m ρ d c)

/-- The receive semaphores in use: every device's but one's own. -/
abbrev RecvUsed (c : Dev nD) (q : DmaSem sig) : Prop := 18 ≤ q.val ∧ q.val ≠ 18 + c.val

/-- The only round: a barrier has fifteen duties of one unit, one per peer; a send semaphore, and the receive
    semaphore of each peer, one duty of a block's credit. -/
def exRd : Rounds.Schedule (GSem nD τ sig) (Fin 15) 𝕄 where
  duties g r := if r = 0 ∧ g.1.2 = .tc then
      (match g.2 with
        | .reg _ => Finset.univ
        | .dma q => if q.val < 18 ∨ RecvUsed g.1.1 q then {0} else ∅)
    else ∅
  unitless _ := False
  amount g _ _ := match g.2 with | .reg _ => 1 | .dma _ => N
  payload g _ d := match g.2 with
    | .reg _ => barPay g.1.1 d.val
    | .dma q => if q.val < 18 then sendPay m ρ g.1.1 (q.val - 3) else recvPay m ρ g.1.1 ⟨(q.val - 18) % 16, Nat.mod_lt _ (by decide)⟩
  amount_pos g _ _ _ := by
    rcases h : g.2 with _ | _
    · exact Nat.one_pos
    · exact N_pos

instance exRd_payload_storable (g : GSem nD τ sig) (r : ℕ) (d : Fin 15) :
    BI.Storable (upEmb : UEmb _ 𝕄) ((exRd (F := F) m ρ).payload g r d) := by
  obtain ⟨t, (s | q)⟩ := g
  · show BI.Storable upEmb (barPay t.1 d.val)
    unfold barPay; infer_instance
  · show BI.Storable upEmb (if q.val < 18 then sendPay m ρ t.1 (q.val - 3) else recvPay m ρ t.1 ⟨(q.val - 18) % 16, Nat.mod_lt _ (by decide)⟩)
    unfold sendPay recvPay
    split <;> infer_instance

section Sched
variable (c d : Dev nD) (j : Fin 15)

theorem recv_used (h : d ≠ c) : RecvUsed c (recvS d) :=
  ⟨Nat.le_add_right _ _, fun h' => h (Fin.ext (by simp only [recvS] at h'; omega))⟩

theorem duties_bar : (exRd (F := F) m ρ).duties (barCell c) 0 = Finset.univ := by
  dsimp only [exRd]; exact if_pos ⟨rfl, rfl⟩
theorem duties_send : (exRd (F := F) m ρ).duties (sendCell c j) 0 = {0} := by
  dsimp only [exRd]; rw [if_pos ⟨rfl, rfl⟩]
  exact if_pos (.inl (show 3 + j.val < 18 by have := j.isLt; omega))
theorem duties_recv (h : d ≠ c) : (exRd (F := F) m ρ).duties (recvCell c d) 0 = {0} := by
  dsimp only [exRd]; rw [if_pos ⟨rfl, rfl⟩]
  exact if_pos (.inr (recv_used c d h))
/-- No duty on one's own receive semaphore, ever; -/
theorem duties_self (r : ℕ) : (exRd (F := F) m ρ).duties (recvCell c c) r = ∅ := by
  dsimp only [exRd]
  split
  · refine if_neg fun h => ?_
    rcases h with h | h
    · exact absurd (show 18 + c.val < 18 from h) (by omega)
    · exact h.2 rfl
  · rfl
/-- nor any duty after the first round. -/
theorem duties_later (g : GSem nD τ sig) : ∀ r, 1 ≤ r → (exRd (F := F) m ρ).duties g r = ∅ :=
  fun r hr => if_neg fun h => by omega

theorem amount_bar : (exRd (F := F) m ρ).amount (barCell c) 0 j = 1 := rfl
theorem amount_send (i : Fin 15) : (exRd (F := F) m ρ).amount (sendCell c j) 0 i = N := rfl
theorem amount_recv (i : Fin 15) : (exRd (F := F) m ρ).amount (recvCell c d) 0 i = N := rfl

theorem expect_bar : (exRd (F := F) m ρ).expect (barCell c) 0 = 15 := by
  unfold Schedule.expect Schedule.amountOf
  rw [duties_bar, Finset.sum_congr rfl fun i _ => amount_bar m ρ c i, Finset.sum_const, Finset.card_univ, Fintype.card_fin, smul_eq_mul]
theorem expect_send : (exRd (F := F) m ρ).expect (sendCell c j) 0 = N := by
  unfold Schedule.expect Schedule.amountOf; rw [duties_send, Finset.sum_singleton, amount_send]
theorem expect_recv (h : d ≠ c) : (exRd (F := F) m ρ).expect (recvCell c d) 0 = N := by
  unfold Schedule.expect Schedule.amountOf; rw [duties_recv m ρ c d h, Finset.sum_singleton, amount_recv]

theorem payload_bar : (exRd (F := F) m ρ).payload (barCell c) 0 j = barPay c j.val := rfl
theorem payload_send (i : Fin 15) : (exRd (F := F) m ρ).payload (sendCell c j) 0 i = sendPay m ρ c j.val := by
  show (if 3 + j.val < 18 then sendPay m ρ c (3 + j.val - 3) else _) = _
  rw [if_pos (by have := j.isLt; omega), Nat.add_sub_cancel_left]
theorem payload_recv (i : Fin 15) : (exRd (F := F) m ρ).payload (recvCell c d) 0 i = recvPay m ρ c d := by
  show (if 18 + d.val < 18 then _ else recvPay m ρ c ⟨(18 + d.val - 18) % 16, _⟩) = _
  rw [if_neg (by omega)]
  congr 1
  exact Fin.ext (by have := dev_lt d; simp only; omega)

/-- What the round's wait brings: the barrier's, the fifteen blocks to fill; a transfer's, its block. -/
theorem rest_bar : bigSep ((exRd (F := F) m ρ).duties (barCell c) 0 \ ∅) (fun i => (exRd (F := F) m ρ).payload (barCell c) 0 i)
    = bigSep Finset.univ fun i : Fin 15 => barPay c i.val := by
  rw [Finset.sdiff_empty, duties_bar]; rfl
theorem rest_send : bigSep ((exRd (F := F) m ρ).duties (sendCell c j) 0 \ ∅) (fun i => (exRd (F := F) m ρ).payload (sendCell c j) 0 i)
    = sendPay m ρ c j.val := by
  rw [Finset.sdiff_empty, duties_send, bigSep_singleton, payload_send]
theorem rest_recv (h : d ≠ c) : bigSep ((exRd (F := F) m ρ).duties (recvCell c d) 0 \ ∅) (fun i => (exRd (F := F) m ρ).payload (recvCell c d) 0 i)
    = recvPay m ρ c d := by
  rw [Finset.sdiff_empty, duties_recv m ρ c d h, bigSep_singleton, payload_recv]

end Sched

/-! ## What each device owes at launch; the order of the waits -/

/-- Still to send: a block's credit to the receive semaphore `c` has on each peer, the first `k` peers served. -/
def oSend (c : Dev nD) (k : ℕ) : CellTallies nD τ sig Unit := progSum k fun j : Fin 15 => tallyAt (recvCell (sh c j.val) c) () N
/-- Still to signal: one unit to each peer's barrier, the first `k` peers served. -/
def oBar (c : Dev nD) (k : ℕ) : CellTallies nD τ sig Unit := progSum k fun j : Fin 15 => tallyAt (barCell (sh c j.val)) () 1
/-- What `c` owes at launch. -/
def O₀ (c : Dev nD) : CellTallies nD τ sig Unit := oSend c 0 + oBar c 0

def L (g : GSem nD τ sig) : Finset Unit := if g.1.2 = .tc then {()} else ∅
/-- Barriers come first, receive semaphores after them; whatever is waited for with debts open is below both. -/
def lv (g : GSem nD τ sig) (_ : Unit) : ℕ := match g.2 with | .reg _ => 1 | .dma q => if q.val < 18 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c d : Dev nD) : lv (recvCell c d) () = 2 := if_neg (by simp only [recvS]; omega)

/-- A tally that is not zero is one of the sum's own. -/
theorem sum_tally_pos {g : GSem nD τ sig} {u : Unit} {cell : Fin 15 → GSem nD τ sig} {n : ℕ}
    (h : 0 < (∑ j : Fin 15, (tallyAt (cell j) () n : CellTallies nD τ sig Unit)) g u) : ∃ j, g = cell j := by
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hn
  exact hj (if_neg fun h' => hn h'.1)

theorem oSend_pos {c : Dev nD} {g : GSem nD τ sig} {u : Unit} (h : 0 < oSend c 0 g u) : ∃ d, g = recvCell d c := by
  unfold oSend at h; rw [progSum_zero] at h
  obtain ⟨j, hj⟩ := sum_tally_pos h
  exact ⟨_, hj⟩
theorem O₀_pos {c : Dev nD} {g : GSem nD τ sig} {u : Unit} (h : 0 < O₀ c g u) : (∃ d, g = recvCell d c) ∨ ∃ d, g = barCell d := by
  unfold O₀ at h; rw [Pi.add_apply, Finsupp.add_apply] at h
  rcases Nat.eq_zero_or_pos (oSend c 0 g u) with h0 | h0
  · rw [h0, Nat.zero_add] at h
    unfold oBar at h; rw [progSum_zero] at h
    obtain ⟨j, hj⟩ := sum_tally_pos h
    exact .inr ⟨_, hj⟩
  · exact .inl (oSend_pos h0)

omit [FloatOps F] in
/-- A staging copy may be waited for with every debt of the launch open, or with none. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_pos hq).le)
      (fun g u hg => by
        rcases O₀_pos hg with ⟨d, rfl⟩ | ⟨d, rfl⟩
        · exact (lv_recv d c).symm ▸ Nat.succ_pos 1
        · exact Nat.one_pos)
  · rw [MayWait_zero]; iintro -; iempintro

omit [FloatOps F] in
/-- At its barrier a device still owes the blocks it will send, and nothing else. -/
theorem mayWait_bar (c : Dev nD) : (levAts L lv : sProp 𝕄) ⊢ MayWait (c : Thread nD τ) (.reg barS) () (oSend c 0) :=
  MayOwe.of_cut (L := L) (lev := lv) 1 (fun p hp => by rw [Finset.mem_singleton.mp hp, L_tc]; exact Finset.mem_singleton_self _)
    (fun g u hg => by obtain ⟨d, rfl⟩ := oSend_pos hg; exact Finset.mem_singleton_self _)
    (fun p hp => by rw [Finset.mem_singleton.mp hp]; exact (lv_bar c).le)
    (fun g u hg => by obtain ⟨d, rfl⟩ := oSend_pos hg; exact (lv_recv d c).symm ▸ Nat.lt_succ_self 1)

end Cert.Exchange

end

end
-- ==== Proof.Steps.lean ====
/- One rule per kind of operation the kernel repeats: what it takes from the state, what it puts back. -/
module

public import Idealize.ShloMosaic.Lib.Pipeline.Value
public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to the postcondition `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The records every device may use -/

/-- The thirty-two semaphores of a device: the barrier, the send semaphores, the receive semaphores. -/
abbrev CK : Type := Unit ⊕ (Fin 15 ⊕ Dev nD)
def kcell (p : Dev nD × CK) : GSem nD τ sig :=
  match p.2 with
  | .inl _ => barCell p.1
  | .inr (.inl j) => sendCell p.1 j
  | .inr (.inr d) => recvCell p.1 d

/-- Every semaphore's invariant, under the names `K`, and that it is in the first round. -/
def recs (K : Dev nD × CK → ℕ) : sProp 𝕄 :=
  iprop((bigSep Finset.univ fun p => cellInv ER (exRd m ρ) (K p) (kcell p)) ∗ bigSep Finset.univ fun p => reached ER (kcell p) 0)

instance recs_persistent (K : Dev nD × CK → ℕ) : BI.Persistent (recs m ρ K) := by unfold recs; infer_instance

variable (K : Dev nD × CK → ℕ)

theorem inv_at (p : Dev nD × CK) :
    (bigSep Finset.univ fun p => cellInv ER (exRd m ρ) (K p) (kcell p)) ⊢ cellInv ER (exRd m ρ) (K p) (kcell p) :=
  bigSep_elim (Finset.mem_univ p)
omit [FloatOps F] in
theorem reached_at (p : Dev nD × CK) :
    (bigSep Finset.univ fun p => (reached ER (kcell p) 0 : sProp 𝕄)) ⊢ reached ER (kcell p) 0 :=
  bigSep_elim (Finset.mem_univ p)
theorem inv_of (p : Dev nD × CK) : recs m ρ K ⊢ cellInv ER (exRd m ρ) (K p) (kcell p) := by
  unfold recs; iintro ⟨H, -⟩; iapply (inv_at m ρ K p); iexact H
theorem reached_of (p : Dev nD × CK) : recs m ρ K ⊢ (reached ER (kcell p) 0 : sProp 𝕄) := by
  unfold recs; iintro ⟨-, H⟩; iapply (reached_at (F := F) p); iexact H

theorem inv_bar (c : Dev nD) : recs m ρ K ⊢ cellInv ER (exRd m ρ) (K (c, .inl ())) (barCell c) := inv_of m ρ K (c, .inl ())
theorem inv_send (c : Dev nD) (j : Fin 15) : recs m ρ K ⊢ cellInv ER (exRd m ρ) (K (c, .inr (.inl j))) (sendCell c j) :=
  inv_of m ρ K (c, .inr (.inl j))
theorem inv_recv (c d : Dev nD) : recs m ρ K ⊢ cellInv ER (exRd m ρ) (K (c, .inr (.inr d))) (recvCell c d) :=
  inv_of m ρ K (c, .inr (.inr d))
theorem reached_bar (c : Dev nD) : recs m ρ K ⊢ (reached ER (barCell c) 0 : sProp 𝕄) := reached_of m ρ K (c, .inl ())
theorem reached_send (c : Dev nD) (j : Fin 15) : recs m ρ K ⊢ (reached ER (sendCell c j) 0 : sProp 𝕄) :=
  reached_of m ρ K (c, .inr (.inl j))
theorem reached_recv (c d : Dev nD) : recs m ρ K ⊢ (reached ER (recvCell c d) 0 : sProp 𝕄) := reached_of m ρ K (c, .inr (.inr d))

/-- What `c` owes, with whatever record of past waits. -/
def due (c : Dev nD) (O : CellTallies nD τ sig Unit) : sProp 𝕄 := iprop(∃ W, owes (c : Thread nD τ) O W)

/-- Two parts of a state may be exchanged. -/
theorem swap {P A B R : sProp 𝕄} {G : sProp 𝕄} (h : iprop(P ∗ B ∗ A ∗ R) ⊢ G) : iprop(P ∗ A ∗ B ∗ R) ⊢ G := by
  have e : iprop(P ∗ A ∗ B ∗ R) ⊢ iprop(P ∗ B ∗ A ∗ R) := by
    iintro ⟨HP, HA, HB, HR⟩
    isplitl [HP]; · iexact HP
    isplitl [HB]; · iexact HB
    isplitl [HA]; · iexact HA
    iexact HR
  exact e.trans h

/-! ## The signals -/

/-- Signalling, `k` peers signalled: for each other peer, the token of its barrier's duty and the rows it is to fill. -/
def SigSt (c : Dev nD) (k : ℕ) : sProp 𝕄 :=
  iprop((prog k (fun _ : Fin 15 => iprop(emp)) fun j => iprop(dutyTok ER (barCell (sh c j.val)) 0 j ∗ oAny c (sh c j.val)))
    ∗ due c (oSend c 0 + oBar c k))

theorem step_signal {c : Dev nD} (j : Fin 15) {dst : Dev nD} (hd : dst = sh c j.val) {R : sProp 𝕄} {α : Type}
    {k : PUnit → Prog (TpuEff nD τ sig (Elt F) Λ₀ .tc) α} {Q : α → sProp 𝕄} {n : ℕ} (hn : n = 1)
    (h : iprop(recs m ρ K ∗ SigSt c (j.val + 1) ∗ R) ⊢ Runs c (k ⟨⟩) Q) :
    iprop(recs m ρ K ∗ SigSt c j.val ∗ R) ⊢ Runs c (.op (.semSignal (dst : Thread nD τ) barS n) k) Q := by
  subst hd hn
  have hO : oSend c 0 + oBar c j.val = oSend c 0 + oBar c (j.val + 1) + tallyAt (barCell (sh c j.val)) () 1 := by
    unfold oBar; rw [progSum_step, add_assoc]
  iintro ⟨#HI, Hs, HR⟩
  unfold SigSt due
  icases Hs with ⟨Hp, ⟨%W, HO⟩⟩
  ihave Hp' := (prog_step (fun _ : Fin 15 => iprop(emp)) (fun j => iprop(dutyTok ER (barCell (sh c j.val)) 0 j ∗ oAny c (sh c j.val))) j) $$ Hp
  icases Hp' with ⟨⟨Ht, Hb⟩, Hc⟩
  iapply (Rounds.wp_signal 𝒱₀ ER (exRd m ρ) (c : Thread nD τ) none (dst := (sh c j.val : Thread nD τ)) (κ := K (sh c j.val, .inl ()))
      (r := 0) (d := j) (by rw [duties_bar]; exact Finset.mem_univ _) (amount_bar m ρ (sh c j.val) j) ()
      (oSend c 0 + oBar c (j.val + 1)) hO) $$ [HO Ht Hb]
  · isplitr; · iapply (inv_bar m ρ K (sh c j.val)); iexact HI
    isplitl [HO]; · iexact HO
    isplitl [Ht]; · iexact Ht
    isplitl [Hb]
    · rw [payload_bar]; unfold barPay; rw [src_sh]; iexact Hb
    iapply (reached_bar m ρ K (sh c j.val)); iexact HI
  iintro HO
  iapply h
  isplitr; · iexact HI
  isplitr [HR]
  · unfold SigSt due
    isplitl [Hc]
    · iapply Hc; iempintro
    iexists W; iexact HO
  iexact HR

/-- Before the barrier's wait: everything signalled, the credit for fifteen signals. -/
def BarSt (c : Dev nD) : sProp 𝕄 := iprop(atPos ER (barCell c) 0 ∅ 0 ∗ cred (tallyAt (barCell c) () 15) ∗ levAts L lv)
/-- After it: the barrier done with, and every peer's rows for `c` to fill. -/
def BarGot (c : Dev nD) : sProp 𝕄 :=
  iprop(semVal (barCell c) 0 ∗ (bigSep Finset.univ fun j : Fin 15 => oAny (src c j.val) c) ∗ due c (oSend c 0))

theorem step_barrier {c : Dev nD} {R : sProp 𝕄} {α : Type}
    {k : PUnit → Prog (TpuEff nD τ sig (Elt F) Λ₀ .tc) α} {Q : α → sProp 𝕄} {n : ℕ} (hn : n = 15)
    (h : iprop(recs m ρ K ∗ BarGot c ∗ R) ⊢ Runs c (k ⟨⟩) Q) :
    iprop(recs m ρ K ∗ SigSt c 15 ∗ BarSt c ∗ R) ⊢ Runs c (.op (.semWait barS n) k) Q := by
  subst hn
  iintro ⟨#HI, Hs, Hb, HR⟩
  unfold SigSt due BarSt oBar
  rw [progSum_all, add_zero]
  icases Hs with ⟨-, ⟨%W, HO⟩⟩
  icases Hb with ⟨Hat, Hcr, #Hlev⟩
  iapply (Rounds.wp_wait_rest_token 𝒱₀ ER (exRd m ρ) (c : Thread nD τ) none (κ := K (c, .inl ()))
      (wpE_semWait_eq 𝒱₀ (c : Thread nD τ) none Set.univ) (Set.mem_univ _) () (O := oSend c 0) (W := W) (R := 0) (m := 0) (T := ∅)
      (by rw [expect_bar])) $$ [Hcr HO Hat]
  · isplitr; · iapply (inv_bar m ρ K c); iexact HI
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exRd m ρ) (Set.mem_univ (K (c, .inl ()))) (fun h => h) (R := 0 + 1) (duties_later m ρ (barCell c))) $$ [Hat] with Hz
  · isplitr; · iapply (inv_bar m ρ K c); iexact HI
    iexact Hat
  iapply h
  isplitr; · iexact HI
  isplitr [HR]
  · unfold BarGot due
    isplitl [Hz]; · iexact Hz
    isplitl [Hp]; · iexact Hp
    iexists _; iexact HO
  iexact HR

/-! ## The product, stored block by block -/

/-- The two factors in the device's memory, and `k` blocks of its product stored. -/
def MulSt (c : Dev nD) (k : ℕ) : sProp 𝕄 :=
  iprop((((c : Thread nD τ).loc cc0_stg0_0) ↦{fullShare} xstg m ρ c) ∗ (((c : Thread nD τ).loc cc0_stg1_0) ↦{fullShare} wstg m ρ c)
    ∗ prog k (fun b : Dev nD => yHas c b (part m ρ c b)) fun b => yAny c b)

omit [FloatOps F] in
theorem hz : (![0, 0] : Fin 2 → ℕ) = fun _ => 0 := funext fun a => by fin_cases a <;> rfl

omit [FloatOps F] in
theorem read_x (hi) (f : (cc0_stg0_0 : Ref sig .tc).ty.Contents (Elt F)) :
    xM.view.readAt (Elt F) (Rect.unit (s := S64x1024) ![0, 0] S64x1024.size hi).toLoadRect f = f :=
  Memref.readAt_unit_zero (Elt F) cc0_stg0_0 hz hi f
omit [FloatOps F] in
theorem read_w (hi) (f : (cc0_stg1_0 : Ref sig .tc).ty.Contents (Elt F)) :
    wM.view.readAt (Elt F) (Rect.unit (s := S1024x1024) ![0, 0] S1024x1024.size hi).toLoadRect f = f :=
  Memref.readAt_unit_zero (Elt F) cc0_stg1_0 hz hi f

theorem step_load_x {c : Dev nD} {R : sProp 𝕄} {α : Type} {n : ℕ} {hi hl}
    {k : Vec F S64x1024 .f32 → Prog (TpuEff nD τ sig (Elt F) Λ₀ .tc) α} {Q : α → sProp 𝕄}
    (h : iprop(recs m ρ K ∗ MulSt m ρ c n ∗ R) ⊢ Runs c (k (xstg m ρ c)) Q) :
    iprop(recs m ρ K ∗ MulSt m ρ c n ∗ R)
      ⊢ Runs c (.op (.load xM (Rect.unit (s := S64x1024) ![0, 0] S64x1024.size hi).toLoadRect hl) k) Q := by
  iintro ⟨#HI, Hs, HR⟩
  unfold MulSt
  icases Hs with ⟨Hx, Hw, Hy⟩
  iapply (wp_load 𝒱₀ (c : Thread nD τ) none Set.univ (m := xM) (Finset.subset_univ _)) $$ Hx
  iintro Hx
  rw [read_x]
  iapply h
  isplitr; · iexact HI
  isplitr [HR]
  · unfold MulSt
    isplitl [Hx]; · iexact Hx
    isplitl [Hw] <;> iassumption
  iexact HR

theorem step_load_w {c : Dev nD} {R : sProp 𝕄} {α : Type} {n : ℕ} {hi hl}
    {k : Vec F S1024x1024 .f32 → Prog (TpuEff nD τ sig (Elt F) Λ₀ .tc) α} {Q : α → sProp 𝕄}
    (h : iprop(recs m ρ K ∗ MulSt m ρ c n ∗ R) ⊢ Runs c (k (wstg m ρ c)) Q) :
    iprop(recs m ρ K ∗ MulSt m ρ c n ∗ R)
      ⊢ Runs c (.op (.load wM (Rect.unit (s := S1024x1024) ![0, 0] S1024x1024.size hi).toLoadRect hl) k) Q := by
  iintro ⟨#HI, Hs, HR⟩
  unfold MulSt
  icases Hs with ⟨Hx, Hw, Hy⟩
  iapply (wp_load 𝒱₀ (c : Thread nD τ) none Set.univ (m := wM) (Finset.subset_univ _)) $$ Hw
  iintro Hw
  rw [read_w]
  iapply h
  isplitr; · iexact HI
  isplitr [HR]
  · unfold MulSt
    isplitl [Hx]; · iexact Hx
    isplitl [Hw] <;> iassumption
  iexact HR

/-- A block as a matrix lies where the block as a stack of one lies; -/
theorem yBlk_set (b : Dev nD) : (yBlk b).view.set = (yM.access (yRect b)).set := View.set_reshape _ _
/-- reading it is reading that, reshaped. -/
theorem yBlk_read (b : Dev nD) (f : (cc0_scratch0 : Ref sig .tc).ty.Contents (Elt F)) :
    (yBlk b).view.read (Elt F) f = shapeCast S64x64 ((yM.access (yRect b)).read (Elt F) f) shapeCasts_S1x64x64_S64x64 := rfl

/-- Storing a matrix as a stack of one leaves the block reading it. -/
theorem yBlk_write (b : Dev nD) (f : (cc0_scratch0 : Ref sig .tc).ty.Contents (Elt F)) (X : FVec F S64x64 .f32) :
    (yBlk b).view.read (Elt F) ((yM.access (yRect b)).write (Elt F) f (shapeCast S1x64x64 X shapeCasts_S64x64_S1x64x64) Finset.univ) = X :=
  (yBlk_read b _).trans ((congrArg (fun v : FVec F S1x64x64 .f32 => shapeCast S64x64 v shapeCasts_S1x64x64_S64x64)
    (View.read_write_univ _ _)).trans (shapeCast_shapeCast X _ _))

theorem ySet_sub (b : Dev nD) : (yM.access (yRect b)).set ⊆ (yBlk b).view.set := (yBlk_set b).ge
theorem ySetOn_sub (b : Dev nD) : (yM.access (yRect b)).setOn Finset.univ ⊆ (yBlk b).view.set := (yBlk_set b).ge

/-- The kernel reads a block of the stack before storing it; nothing depends on what it reads. -/
theorem step_load_y {c : Dev nD} (b : Dev nD) {off : Fin 3 → ℕ} (he : off = ![b.val, 0, 0]) {R : sProp 𝕄} {α : Type} {hi hl}
    {k : Vec F S1x64x64 .f32 → Prog (TpuEff nD τ sig (Elt F) Λ₀ .tc) α} {Q : α → sProp 𝕄}
    (h : ∀ v, iprop(recs m ρ K ∗ MulSt m ρ c b.val ∗ R) ⊢ Runs c (k v) Q) :
    iprop(recs m ρ K ∗ MulSt m ρ c b.val ∗ R)
      ⊢ Runs c (.op (.load yM (Rect.unit (s := S16x64x64) off S1x64x64.size hi).toLoadRect hl) k) Q := by
  subst he
  iintro ⟨#HI, Hs, HR⟩
  unfold MulSt
  icases Hs with ⟨Hx, Hw, Hy⟩
  ihave Hy' := (prog_back (fun b : Dev nD => yHas c b (part m ρ c b)) (fun b => yAny c b) b) $$ Hy
  icases Hy' with ⟨Hb, Hc⟩
  unfold yAny yHas owns
  icases Hb with ⟨%X, %f, %hf, Hb⟩
  iapply (wp_load_rect 𝒱₀ (c : Thread nD τ) none Set.univ (m := yM) (r := yRect b) (ySet_sub b)) $$ Hb
  iintro Hb
  iapply (h _)
  isplitr; · iexact HI
  isplitr [HR]
  · unfold MulSt
    isplitl [Hx]; · iexact Hx
    isplitl [Hw]; · iexact Hw
    iapply Hc
    iexists X, f
    isplitr; · (ipureintro; exact hf)
    iexact Hb
  iexact HR

/-- Storing block `b` of the product in its place. -/
theorem step_store_y {c : Dev nD} (b : Dev nD) {off : Fin 3 → ℕ} (he : off = ![b.val, 0, 0]) {R : sProp 𝕄} {α : Type} {hi hx hm}
    {k : PUnit → Prog (TpuEff nD τ sig (Elt F) Λ₀ .tc) α} {Q : α → sProp 𝕄} {w : FVec F S1x64x64 .f32}
    (hw : w = shapeCast S1x64x64 (part m ρ c b) shapeCasts_S64x64_S1x64x64)
    (h : iprop(recs m ρ K ∗ MulSt m ρ c (b.val + 1) ∗ R) ⊢ Runs c (k ⟨⟩) Q) :
    iprop(recs m ρ K ∗ MulSt m ρ c b.val ∗ R)
      ⊢ Runs c (.op (.store yM (Rect.unit (s := S16x64x64) off S1x64x64.size hi) w Finset.univ hx hm) k) Q := by
  subst he hw
  iintro ⟨#HI, Hs, HR⟩
  unfold MulSt
  icases Hs with ⟨Hx, Hw, Hy⟩
  ihave Hy' := (prog_step (fun b : Dev nD => yHas c b (part m ρ c b)) (fun b => yAny c b) b) $$ Hy
  icases Hy' with ⟨Hb, Hc⟩
  unfold yAny yHas owns
  icases Hb with ⟨%X, %f, %hf, Hb⟩
  iapply (wp_store 𝒱₀ (c : Thread nD τ) none Set.univ (m := yM) (r := yRect b) (Mk := Finset.univ) (ySetOn_sub b)) $$ Hb
  iintro Hb
  iapply h
  isplitr; · iexact HI
  isplitr [HR]
  · unfold MulSt
    isplitl [Hx]; · iexact Hx
    isplitl [Hw]; · iexact Hw
    iapply Hc
    iexists ((yM.access (yRect b)).write (Elt F) f (shapeCast S1x64x64 (part m ρ c b) shapeCasts_S64x64_S1x64x64) Finset.univ)
    isplitr; · (ipureintro; exact yBlk_write b f _)
    iexact Hb
  iexact HR

end Cert.Exchange

end

end
-- ==== Proof.Blocks.lean ====
/- The stack of products and the result, cut into their sixteen blocks and put together again. -/
module

public import Idealize.ShloMosaic.Lib.Ring
public import Idealize.ShloMosaic.Lib.Pointwise.Index
public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Where the blocks lie -/

/-- The places of block `b` in the stack, and in the result. -/
def yPl (b : Dev nD) : Finset S16x64x64.Idx := (yBlk b).view.set
def oPl (b : Dev nD) : Finset S1024x64.Idx := (oBlk b).view.set

theorem yPl_eq (b : Dev nD) : yPl b = (yRect b).set := (yBlk_set b).trans (View.set_slice_whole _ _)
theorem oPl_eq (b : Dev nD) : oPl b = (oRect b).set := View.set_slice_whole _ _

/-- A place of the stack is in the block its first coordinate names; -/
theorem mem_yPl (b : Dev nD) (i : S16x64x64.Idx) : i ∈ yPl b ↔ (i 0).val = b.val := by
  rw [yPl_eq, Rect.mem_set_unit]
  constructor
  · intro h
    have h0 : b.val ≤ (i 0).val ∧ (i 0).val < b.val + 1 := h 0
    omega
  · intro h a
    fin_cases a
    · show b.val ≤ (i 0).val ∧ (i 0).val < b.val + 1
      omega
    · exact ⟨Nat.zero_le _, (i 1).isLt.trans_eq (Nat.zero_add 64).symm⟩
    · exact ⟨Nat.zero_le _, (i 2).isLt.trans_eq (Nat.zero_add 64).symm⟩
/-- a place of the result, in the block its row, divided by sixty-four, names. -/
theorem mem_oPl (b : Dev nD) (i : S1024x64.Idx) : i ∈ oPl b ↔ (i 0).val / 64 = b.val := by
  rw [oPl_eq, Rect.mem_set_unit]
  constructor
  · intro h
    have h0 : 64 * b.val ≤ (i 0).val ∧ (i 0).val < 64 * b.val + 64 := h 0
    omega
  · intro h a
    fin_cases a
    · show 64 * b.val ≤ (i 0).val ∧ (i 0).val < 64 * b.val + 64
      omega
    · exact ⟨Nat.zero_le _, (i 1).isLt.trans_eq (Nat.zero_add 64).symm⟩

theorem yPl_disj (b b' : Dev nD) (h : b ≠ b') : Disjoint (yPl b) (yPl b') :=
  Finset.disjoint_left.mpr fun i hi hi' => h (Fin.ext (((mem_yPl b i).mp hi).symm.trans ((mem_yPl b' i).mp hi')))
theorem oPl_disj (b b' : Dev nD) (h : b ≠ b') : Disjoint (oPl b) (oPl b') :=
  Finset.disjoint_left.mpr fun i hi hi' => h (Fin.ext (((mem_oPl b i).mp hi).symm.trans ((mem_oPl b' i).mp hi')))
theorem yPl_all : Finset.univ.biUnion yPl = Finset.univ := by
  refine Finset.eq_univ_of_forall fun i => Finset.mem_biUnion.mpr ⟨⟨(i 0).val, (i 0).isLt⟩, Finset.mem_univ _, ?_⟩
  exact (mem_yPl _ i).mpr rfl
theorem oPl_all : Finset.univ.biUnion oPl = Finset.univ := by
  refine Finset.eq_univ_of_forall fun i => Finset.mem_biUnion.mpr
    ⟨⟨(i 0).val / 64, Nat.div_lt_of_lt_mul (i 0).isLt⟩, Finset.mem_univ _, ?_⟩
  exact (mem_oPl _ i).mpr rfl

/-! ## Cutting and joining -/

omit [FloatOps F] in
/-- The stack held whole is its sixteen blocks held; -/
theorem y_split (c : Dev nD) (f : Buf (Elt F) ((c : Thread nD τ).loc cc0_scratch0)) :
    (((c : Thread nD τ).loc cc0_scratch0) ↦{fullShare} f : sProp 𝕄) ⊢ bigSep Finset.univ fun b : Dev nD => yAny c b := by
  have e (b : Dev nD) : (((c : Thread nD τ).loc cc0_scratch0) ↦[yPl b]{fullShare} f : sProp 𝕄) ⊢ yAny c b := by
    unfold yAny yHas owns
    iintro H
    iexists ((yBlk b).view.read (Elt F) f), f
    isplitr; · (ipureintro; rfl)
    iexact H
  rw [Ring.pointsTo_blocks (ℓ := (c : Thread nD τ).loc cc0_scratch0) yPl yPl_disj yPl_all f]
  exact bigSep_mono fun b _ => e b
omit [FloatOps F] in
/-- and so is the result. -/
theorem o_split (c : Dev nD) (f : Buf (Elt F) ((c : Thread nD τ).loc cc0_stg2_0)) :
    (((c : Thread nD τ).loc cc0_stg2_0) ↦{fullShare} f : sProp 𝕄) ⊢ bigSep Finset.univ fun b : Dev nD => oAny c b := by
  have e (b : Dev nD) : (((c : Thread nD τ).loc cc0_stg2_0) ↦[oPl b]{fullShare} f : sProp 𝕄) ⊢ oAny c b := by
    unfold oAny oHas owns
    iintro H
    iexists ((oBlk b).view.read (Elt F) f), f
    isplitr; · (ipureintro; rfl)
    iexact H
  rw [Ring.pointsTo_blocks (ℓ := (c : Thread nD τ).loc cc0_stg2_0) oPl oPl_disj oPl_all f]
  exact bigSep_mono fun b _ => e b

omit [FloatOps F] in
/-- Sixteen blocks of the stack, whatever they hold, are the stack. -/
theorem y_join (c : Dev nD) (X : Dev nD → FVec F S64x64 .f32) :
    (bigSep Finset.univ fun b : Dev nD => yHas c b (X b) : sProp 𝕄)
      ⊢ iprop(∃ f : Buf (Elt F) ((c : Thread nD τ).loc cc0_scratch0), ((c : Thread nD τ).loc cc0_scratch0) ↦{fullShare} f) := by
  have e (b : Dev nD) : (yHas c b (X b) : sProp 𝕄) ⊢ iprop(∃ f : Buf (Elt F) ((c : Thread nD τ).loc cc0_scratch0), ((c : Thread nD τ).loc cc0_scratch0) ↦[yPl b]{fullShare} f) := by
    unfold yHas owns
    iintro ⟨%f, -, H⟩
    iexists f; iexact H
  by_cases hne : Nonempty (Buf (Elt F) ((c : Thread nD τ).loc cc0_scratch0))
  · exact (bigSep_mono fun b _ => e b).trans
      (Ring.pointsTo_blocks_join_exists (ℓ := (c : Thread nD τ).loc cc0_scratch0) yPl yPl_disj yPl_all hne.some)
  · rw [bigSep_univ_at _ c]
    unfold yHas owns
    iintro ⟨⟨%f, -, -⟩, -⟩
    exact absurd ⟨f⟩ hne

/-- The result, of which block `b` reads `X b`. -/
def whole (X : Dev nD → FVec F S64x64 .f32) : FVec F S1024x64 .f32 := fun i =>
  X ⟨(i 0).val / 64, Nat.div_lt_of_lt_mul (i 0).isLt⟩
    (ix2 ⟨(i 0).val % 64, Nat.mod_lt _ (by decide)⟩ ⟨(i 1).val, (i 1).isLt⟩)

omit [FloatOps F] in
/-- Contents that agree with `X b` on block `b` are, there, the contents whose blocks are the `X b`. -/
theorem whole_at (X : Dev nD → FVec F S64x64 .f32) (b : Dev nD) (f : FVec F S1024x64 .f32) (h : (oBlk b).view.read (Elt F) f = X b)
    (i : S1024x64.Idx) (hi : i ∈ oPl b) : f i = whole X i := by
  have hb : (⟨(i 0).val / 64, Nat.div_lt_of_lt_mul (i 0).isLt⟩ : Dev nD) = b := Fin.ext ((mem_oPl b i).mp hi)
  unfold whole
  rw [hb, ← h]
  refine congrArg f (funext fun a => Fin.ext ?_)
  have hd : (i 0).val / 64 = b.val := (mem_oPl b i).mp hi
  fin_cases a
  · show (i 0).val = 64 * b.val + 1 * ((i 0).val % 64)
    omega
  · show (i 1).val = 0 + 1 * (i 1).val
    omega

omit [FloatOps F] in
/-- Sixteen blocks of the result are the result, made of what they hold. -/
theorem o_join (c : Dev nD) (X : Dev nD → FVec F S64x64 .f32) :
    (bigSep Finset.univ fun b : Dev nD => oHas c b (X b) : sProp 𝕄)
      ⊢ (((c : Thread nD τ).loc cc0_stg2_0) ↦{fullShare} (whole X : Buf (Elt F) ((c : Thread nD τ).loc cc0_stg2_0))) := by
  have e (b : Dev nD) : (oHas c b (X b) : sProp 𝕄)
      ⊢ (((c : Thread nD τ).loc cc0_stg2_0) ↦[oPl b]{fullShare} (whole X : Buf (Elt F) ((c : Thread nD τ).loc cc0_stg2_0))) := by
    unfold oHas owns
    iintro ⟨%f, %hf, H⟩
    ihave H' := (Entails.of_eq (pointsTo_congr (I := oPl b) (whole_at X b f hf))) $$ H
    iexact H'
  rw [Ring.pointsTo_blocks (ℓ := (c : Thread nD τ).loc cc0_stg2_0) oPl oPl_disj oPl_all]
  exact bigSep_mono fun b _ => e b

end Cert.Exchange

end

end
-- ==== Proof.Moves.lean ====
/- The rules for the transfers: keeping one's own block, sending the others, waiting for what comes in
   and for what has gone out. -/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## One's own block -/

/-- The block a device computes for itself, and the rows of its result it goes to, before and after copying. -/
def OwnSt (c : Dev nD) : sProp 𝕄 := iprop(yHas c c (part m ρ c c) ∗ oAny c c)
def OwnDone (c : Dev nD) : sProp 𝕄 := iprop(yHas c c (part m ρ c c) ∗ oHas c c (part m ρ c c))

theorem step_load_own {c : Dev nD} {off : Fin 3 → ℕ} (he : off = ![c.val, 0, 0]) {R : sProp 𝕄} {α : Type} {hi hl}
    {k : Vec F S1x64x64 .f32 → Prog (TpuEff nD τ sig (Elt F) Λ₀ .tc) α} {Q : α → sProp 𝕄}
    (h : ∀ v, shapeCast S64x64 v shapeCasts_S1x64x64_S64x64 = part m ρ c c →
      iprop(recs m ρ K ∗ OwnSt m ρ c ∗ R) ⊢ Runs c (k v) Q) :
    iprop(recs m ρ K ∗ OwnSt m ρ c ∗ R)
      ⊢ Runs c (.op (.load yM (Rect.unit (s := S16x64x64) off S1x64x64.size hi).toLoadRect hl) k) Q := by
  subst he
  iintro ⟨#HI, Hs, HR⟩
  unfold OwnSt yHas owns
  icases Hs with ⟨⟨%f, %hf, Hb⟩, Ho⟩
  iapply (wp_load_rect 𝒱₀ (c : Thread nD τ) none Set.univ (m := yM) (r := yRect c) (ySet_sub c)) $$ Hb
  iintro Hb
  iapply (h _ ((yBlk_read c f).symm.trans hf))
  isplitr; · iexact HI
  isplitr [HR]
  · unfold OwnSt yHas owns
    isplitl [Hb]
    · iexists f
      isplitr; · (ipureintro; exact hf)
      iexact Hb
    iexact Ho
  iexact HR

/-- The kernel reads the rows before storing them; nothing depends on what it reads. -/
theorem step_load_o {c : Dev nD} {off : Fin 2 → ℕ} (he : off = ![64 * c.val, 0]) {R : sProp 𝕄} {α : Type} {hi hl}
    {k : Vec F S64x64 .f32 → Prog (TpuEff nD τ sig (Elt F) Λ₀ .tc) α} {Q : α → sProp 𝕄}
    (h : ∀ v, iprop(recs m ρ K ∗ OwnSt m ρ c ∗ R) ⊢ Runs c (k v) Q) :
    iprop(recs m ρ K ∗ OwnSt m ρ c ∗ R)
      ⊢ Runs c (.op (.load oM (Rect.unit (s := S1024x64) off S64x64.size hi).toLoadRect hl) k) Q := by
  subst he
  iintro ⟨#HI, Hs, HR⟩
  unfold OwnSt oAny oHas owns
  icases Hs with ⟨Hy, ⟨%X, %f, %hf, Hb⟩⟩
  iapply (wp_load_rect 𝒱₀ (c : Thread nD τ) none Set.univ (m := oM) (r := oRect c) (Finset.Subset.refl (oBlk c).view.set)) $$ Hb
  iintro Hb
  iapply (h _)
  isplitr; · iexact HI
  isplitr [HR]
  · unfold OwnSt oAny oHas owns
    isplitl [Hy]; · iexact Hy
    iexists X, f
    isplitr; · (ipureintro; exact hf)
    iexact Hb
  iexact HR

theorem step_store_o {c : Dev nD} {off : Fin 2 → ℕ} (he : off = ![64 * c.val, 0]) {R : sProp 𝕄} {α : Type} {hi hx hm}
    {k : PUnit → Prog (TpuEff nD τ sig (Elt F) Λ₀ .tc) α} {Q : α → sProp 𝕄} {w : FVec F S64x64 .f32}
    (hw : w = part m ρ c c)
    (h : iprop(recs m ρ K ∗ OwnDone m ρ c ∗ R) ⊢ Runs c (k ⟨⟩) Q) :
    iprop(recs m ρ K ∗ OwnSt m ρ c ∗ R)
      ⊢ Runs c (.op (.store oM (Rect.unit (s := S1024x64) off S64x64.size hi) w Finset.univ hx hm) k) Q := by
  subst he hw
  iintro ⟨#HI, Hs, HR⟩
  unfold OwnSt oAny oHas owns
  icases Hs with ⟨Hy, ⟨%X, %f, %hf, Hb⟩⟩
  iapply (wp_store 𝒱₀ (c : Thread nD τ) none Set.univ (m := oM) (r := oRect c) (Mk := Finset.univ)
    (Finset.Subset.refl (oBlk c).view.set)) $$ Hb
  iintro Hb
  iapply h
  isplitr; · iexact HI
  isplitr [HR]
  · unfold OwnDone oHas owns
    isplitl [Hy]; · iexact Hy
    iexists ((oM.access (oRect c)).write (Elt F) f (part m ρ c c) Finset.univ)
    isplitr; · (ipureintro; exact View.read_write_univ (v := (oBlk c).view) f (part m ρ c c))
    iexact Hb
  iexact HR

/-! ## The sends -/

/-- Sending, `k` peers served: for each other, the duties' tokens, its rows, and the block for it. For each served, the
    credit that its block has left. -/
def SendSt (c : Dev nD) (k : ℕ) : sProp 𝕄 :=
  iprop((prog k (fun j : Fin 15 => cred (tallyAt (sendCell c j) () N))
      fun j => iprop(dutyTok ER (sendCell c j) 0 0 ∗ dutyTok ER (recvCell (sh c j.val) c) 0 0
        ∗ oAny (sh c j.val) c ∗ yHas c (sh c j.val) (part m ρ c (sh c j.val))))
    ∗ due c (oSend c k))

/-- The block being read, given back, is what a send semaphore gives; -/
theorem pays_send (c : Dev nD) (j : Fin 15) (fs : Buf (Elt F) ((yBlk (sh c j.val)).view.loc (c : Thread nD τ)))
    (hfs : (yBlk (sh c j.val)).view.read (Elt F) fs = part m ρ c (sh c j.val)) :
    ((yBlk (sh c j.val)).view.loc (c : Thread nD τ) ↦[(yBlk (sh c j.val)).view.set]{fullShare} fs : sProp 𝕄)
      ⊢ (exRd m ρ).payload (sendCell c j) 0 0 := by
  rw [payload_send]
  unfold sendPay yHas owns
  iintro H
  iexists fs
  isplitr; · (ipureintro; exact hfs)
  iexact H
/-- the rows rewritten with it are what a receive semaphore gives. -/
theorem pays_recv (c : Dev nD) (j : Fin 15) (fs : Buf (Elt F) ((yBlk (sh c j.val)).view.loc (c : Thread nD τ)))
    (hfs : (yBlk (sh c j.val)).view.read (Elt F) fs = part m ρ c (sh c j.val))
    (fd : Buf (Elt F) ((oBlk c).view.loc (sh c j.val : Thread nD τ))) :
    ((oBlk c).view.loc (sh c j.val : Thread nD τ) ↦[(oBlk c).view.set]{fullShare}
        ((oBlk c).view.write (Elt F) fd ((yBlk (sh c j.val)).view.read (Elt F) fs) Finset.univ) : sProp 𝕄)
      ⊢ (exRd m ρ).payload (recvCell (sh c j.val) c) 0 0 := by
  rw [payload_recv]
  unfold recvPay oHas owns
  iintro H
  iexists ((oBlk c).view.write (Elt F) fd ((yBlk (sh c j.val)).view.read (Elt F) fs) Finset.univ)
  isplitr; · (ipureintro; exact (View.read_write_univ _ _).trans hfs)
  iexact H

/-- Sending block `j`, from the rows, the block and the two duties' tokens, to the credit that it has left. -/
theorem wp_send_ex (c : Dev nD) (j : Fin 15)
    {hsc : (oBlk c : Memref sig (Dev.tc (sh c j.val) : Thread nD τ).2.kind .vmem S64x64 .f32).view.ref.isScScratch = false}
    {hsrc : (yBlk (sh c j.val)).view.WordExact} {hdst : (oBlk c).view.WordExact}
    {hsem : DmaTarget.Typed .vmem (.dma (recvS c)) (.remote (Dev.tc (sh c j.val) : Thread nD τ) (oBlk c : Memref sig .tc .vmem S64x64 .f32) (.dma (sendS j)) hsc)}
    {α : Type} {k : PUnit → Prog (TpuEff nD τ sig (Elt F) Λ₀ .tc) α} {Q : α → sProp 𝕄}
    (fs : Buf (Elt F) ((yBlk (sh c j.val)).view.loc (c : Thread nD τ)))
    (hfs : (yBlk (sh c j.val)).view.read (Elt F) fs = part m ρ c (sh c j.val))
    (fd : Buf (Elt F) ((oBlk c).view.loc (sh c j.val : Thread nD τ))) (W : Waits sig Unit) :
    iprop(cellInv ER (exRd m ρ) (K (c, .inr (.inl j))) (sendCell c j) ∗ cellInv ER (exRd m ρ) (K (sh c j.val, .inr (.inr c))) (recvCell (sh c j.val) c)
        ∗ ((yBlk (sh c j.val)).view.loc (c : Thread nD τ) ↦[(yBlk (sh c j.val)).view.set]{fullShare} fs)
        ∗ ((oBlk c).view.loc (sh c j.val : Thread nD τ) ↦[(oBlk c).view.set]{fullShare} fd)
        ∗ owes (c : Thread nD τ) (oSend c j.val) W
        ∗ dutyTok ER (sendCell c j) 0 0 ∗ reached ER (sendCell c j) 0
        ∗ dutyTok ER (recvCell (sh c j.val) c) 0 0 ∗ reached ER (recvCell (sh c j.val) c) 0)
      ⊢ iprop(((cred (tallyAt (sendCell c j) () N) ∗ owes (c : Thread nD τ) (oSend c (j.val + 1)) W) -∗ Runs c (k ⟨⟩) Q)
        -∗ Runs c (.op (.enqueueDma (yBlk (sh c j.val)) (.remote (Dev.tc (sh c j.val) : Thread nD τ) (oBlk c) (.dma (sendS j)) hsc)
            (.dma (recvS c)) hsrc hdst hsem) k) Q) := by
  have hO : oSend c j.val = oSend c (j.val + 1) + tallyAt (recvCell (sh c j.val) c) () N := by
    unfold oSend; rw [progSum_step]
  have hd₁ : (0 : Fin 15) ∈ (exRd (F := F) m ρ).duties (sendCell c j) 0 := by rw [duties_send]; exact Finset.mem_singleton_self _
  have hd₂ : (0 : Fin 15) ∈ (exRd (F := F) m ρ).duties (recvCell (sh c j.val) c) 0 := by
    rw [duties_recv m ρ (sh c j.val) c (sh_ne c j).symm]; exact Finset.mem_singleton_self _
  have hN : (oBlk c).view.amount (.dma (recvS c)) = N := credit_o c
  have ha₁ := amount_send (F := F) m ρ c j 0
  have ha₂ := amount_recv (F := F) m ρ (sh c j.val) c 0
  have hp₁ := pays_send m ρ c j fs hfs
  have hp₂ := pays_recv m ρ c j fs hfs fd
  have hr : τ.routes (c : Thread nD τ) (sh c j.val : Thread nD τ) = true := by routes
  exact Rounds.wp_send_pointsTo (Γ := PendingWaitsCtx.empty) (hsc := hsc) (hsrc := hsrc) (hdst := hdst) (hsem := hsem) (k := k) (Q := Q) (W := W)
    (κ₁ := K (c, .inr (.inl j))) (κ₂ := K (sh c j.val, .inr (.inr c))) (defs := defs₀ (F := F)) (Es := Set.univ)
    𝒱₀ ER (exRd m ρ) (c : Thread nD τ) none hd₁ hd₂ () () N hN
    ha₁ ha₂ (oSend c (j.val + 1)) hO hp₁ hp₂ hr

theorem step_send {c : Dev nD} (j : Fin 15) {dst : Dev nD} (hd : dst = sh c j.val)
    {ys os : Memref sig .tc .vmem S64x64 .f32} (hy : ys = yBlk (sh c j.val)) (ho : os = oBlk c)
    {s₁ s₂ : DmaSem sig} (hs₁ : s₁ = sendS j) (hs₂ : s₂ = recvS c)
    {hsc : (os : Memref sig (Dev.tc dst : Thread nD τ).2.kind .vmem S64x64 .f32).view.ref.isScScratch = false}
    {hsrc : ys.view.WordExact} {hdst : os.view.WordExact}
    {hsem : DmaTarget.Typed .vmem (.dma s₂) (.remote (Dev.tc dst : Thread nD τ) (os : Memref sig .tc .vmem S64x64 .f32) (.dma s₁) hsc)}
    {R : sProp 𝕄} {α : Type} {k : PUnit → Prog (TpuEff nD τ sig (Elt F) Λ₀ .tc) α} {Q : α → sProp 𝕄}
    (h : iprop(recs m ρ K ∗ SendSt m ρ c (j.val + 1) ∗ R) ⊢ Runs c (k ⟨⟩) Q) :
    iprop(recs m ρ K ∗ SendSt m ρ c j.val ∗ R)
      ⊢ Runs c (.op (.enqueueDma ys (.remote (Dev.tc dst : Thread nD τ) os (.dma s₁) hsc) (.dma s₂) hsrc hdst hsem) k) Q := by
  subst hd hy ho hs₁ hs₂
  iintro ⟨#HI, Hs, HR⟩
  unfold SendSt due
  icases Hs with ⟨Hp, ⟨%W, HO⟩⟩
  ihave Hp' := (prog_step (fun j : Fin 15 => cred (tallyAt (sendCell c j) () N))
      (fun j => iprop(dutyTok ER (sendCell c j) 0 0 ∗ dutyTok ER (recvCell (sh c j.val) c) 0 0
        ∗ oAny (sh c j.val) c ∗ yHas c (sh c j.val) (part m ρ c (sh c j.val)))) j) $$ Hp
  icases Hp' with ⟨⟨Ht₁, Ht₂, Hb, Hy⟩, Hc⟩
  unfold oAny oHas yHas owns
  icases Hb with ⟨%X, %fd, %hfd, Hb⟩
  icases Hy with ⟨%fs, %hfs, Hy⟩
  iapply (wp_send_ex m ρ K c j fs hfs fd W) $$ [Ht₁ Ht₂ Hb Hy HO]
  · isplitr; · iapply (inv_send m ρ K c j); iexact HI
    isplitr; · iapply (inv_recv m ρ K (sh c j.val) c); iexact HI
    isplitl [Hy]; · iexact Hy
    isplitl [Hb]; · iexact Hb
    isplitl [HO]; · iexact HO
    isplitl [Ht₁]; · iexact Ht₁
    isplitr; · iapply (reached_send m ρ K c j); iexact HI
    isplitl [Ht₂]; · iexact Ht₂
    iapply (reached_recv m ρ K (sh c j.val) c); iexact HI
  iintro ⟨Hcr, HO⟩
  iapply h
  isplitr; · iexact HI
  isplitr [HR]
  · unfold SendSt due
    isplitr [HO]
    · iapply Hc; iexact Hcr
    iexists W; iexact HO
  iexact HR

/-! ## The waits -/

/-- Waiting for what comes in, the `k` nearest devices' blocks arrived: a semaphore waited for is done with. -/
def RecvSt (c : Dev nD) (k : ℕ) : sProp 𝕄 :=
  iprop((prog k (fun j : Fin 15 => iprop(semVal (recvCell c (src c j.val)) 0 ∗ recvPay m ρ c (src c j.val)))
      fun j => iprop(atPos ER (recvCell c (src c j.val)) 0 ∅ 0 ∗ cred (tallyAt (recvCell c (src c j.val)) () N)))
    ∗ due c 0)

theorem step_recv {c : Dev nD} (j : Fin 15) {s : DmaSem sig} (hs : s = recvS (src c j.val))
    {ys os : Memref sig .tc .vmem S64x64 .f32} {b : Dev nD} (ho : os = oBlk b) {hsrc hdst}
    {R : sProp 𝕄} {α : Type} {k : PUnit → Prog (TpuEff nD τ sig (Elt F) Λ₀ .tc) α} {Q : α → sProp 𝕄}
    (h : iprop(recs m ρ K ∗ RecvSt m ρ c (j.val + 1) ∗ R) ⊢ Runs c (k ⟨⟩) Q) :
    iprop(recs m ρ K ∗ RecvSt m ρ c j.val ∗ R) ⊢ Runs c (.op (.waitDma2 s ys os hsrc hdst) k) Q := by
  subst hs ho
  iintro ⟨#HI, Hs, HR⟩
  unfold RecvSt due
  icases Hs with ⟨Hp, ⟨%W, HO⟩⟩
  ihave Hp' := (prog_step (fun j : Fin 15 => iprop(semVal (recvCell c (src c j.val)) 0 ∗ recvPay m ρ c (src c j.val)))
      (fun j => iprop(atPos ER (recvCell c (src c j.val)) 0 ∅ 0 ∗ cred (tallyAt (recvCell c (src c j.val)) () N))) j) $$ Hp
  icases Hp' with ⟨⟨Hat, Hcr⟩, Hc⟩
  iapply (Rounds.wp_wait_rest_token 𝒱₀ ER (exRd m ρ) (c : Thread nD τ) none (κ := K (c, .inr (.inr (src c j.val))))
      (wpE_waitDma2_eq 𝒱₀ (c : Thread nD τ) none Set.univ) (Set.mem_univ _) () (O := 0) (W := W) (R := 0) (m := 0) (T := ∅)
      (by rw [Nat.zero_add, expect_recv m ρ c _ (src_ne c j)])) $$ [Hcr HO Hat]
  · isplitr; · iapply (inv_recv m ρ K c (src c j.val)); iexact HI
    isplitl [Hcr]; · iexact Hcr
    isplitl [HO]; · iexact HO
    isplitr; · rw [MayWait_zero]; iempintro
    iexact Hat
  iintro ⟨HO, Hat, -, Hpay⟩
  ihave Hb := (Entails.of_eq (rest_recv m ρ c _ (src_ne c j))) $$ Hpay
  imod (Rounds.cell_close ER (exRd m ρ) (Set.mem_univ (K (c, .inr (.inr (src c j.val))))) (fun h => h) (R := 0 + 1)
    (duties_later m ρ (recvCell c (src c j.val)))) $$ [Hat] with Hz
  · isplitr; · iapply (inv_recv m ρ K c (src c j.val)); iexact HI
    iexact Hat
  iapply h
  isplitr; · iexact HI
  isplitr [HR]
  · unfold RecvSt due
    isplitr [HO]
    · iapply Hc
      isplitl [Hz] <;> iassumption
    iexists _; iexact HO
  iexact HR

/-- Waiting for what has gone out, `k` blocks back. -/
def BackSt (c : Dev nD) (k : ℕ) : sProp 𝕄 :=
  iprop((prog k (fun j : Fin 15 => iprop(semVal (sendCell c j) 0 ∗ sendPay m ρ c j.val))
      fun j => iprop(atPos ER (sendCell c j) 0 ∅ 0 ∗ cred (tallyAt (sendCell c j) () N)))
    ∗ due c 0)

theorem step_back {c : Dev nD} (j : Fin 15) {s : DmaSem sig} (hs : s = sendS j)
    {ys os : Memref sig .tc .vmem S64x64 .f32} {b : Dev nD} (hy : ys = yBlk b) {hsrc hdst}
    {R : sProp 𝕄} {α : Type} {k : PUnit → Prog (TpuEff nD τ sig (Elt F) Λ₀ .tc) α} {Q : α → sProp 𝕄}
    (h : iprop(recs m ρ K ∗ BackSt m ρ c (j.val + 1) ∗ R) ⊢ Runs c (k ⟨⟩) Q) :
    iprop(recs m ρ K ∗ BackSt m ρ c j.val ∗ R) ⊢ Runs c (.op (.waitDma2 s os ys hsrc hdst) k) Q := by
  subst hs hy
  iintro ⟨#HI, Hs, HR⟩
  unfold BackSt due
  icases Hs with ⟨Hp, ⟨%W, HO⟩⟩
  ihave Hp' := (prog_step (fun j : Fin 15 => iprop(semVal (sendCell c j) 0 ∗ sendPay m ρ c j.val))
      (fun j => iprop(atPos ER (sendCell c j) 0 ∅ 0 ∗ cred (tallyAt (sendCell c j) () N))) j) $$ Hp
  icases Hp' with ⟨⟨Hat, Hcr⟩, Hc⟩
  iapply (Rounds.wp_wait_rest_token 𝒱₀ ER (exRd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, credit_y])) $$ [Hcr HO Hat]
  · isplitr; · iapply (inv_send m ρ K c j); iexact HI
    isplitl [Hcr]; · iexact Hcr
    isplitl [HO]; · iexact HO
    isplitr; · rw [MayWait_zero]; iempintro
    iexact Hat
  iintro ⟨HO, Hat, -, Hpay⟩
  ihave Hb := (Entails.of_eq (rest_send m ρ c j)) $$ Hpay
  imod (Rounds.cell_close ER (exRd m ρ) (Set.mem_univ (K (c, .inr (.inl j)))) (fun h => h) (R := 0 + 1)
    (duties_later m ρ (sendCell c j))) $$ [Hat] with Hz
  · isplitr; · iapply (inv_send m ρ K c j); iexact HI
    iexact Hat
  iapply h
  isplitr; · iexact HI
  isplitr [HR]
  · unfold BackSt due
    isplitr [HO]
    · iapply Hc
      isplitl [Hz] <;> iassumption
    iexists _; iexact HO
  iexact HR

end Cert.Exchange

end

end
-- ==== Proof.Parts.lean ====
/- The kernel's body, part by part: each part takes the state of one phase some steps on. -/
module

public import proofs.«01_k».proof.Proof.Moves
public import proofs.«01_k».proof.Proof.Gen.KernelIdeal.Skeleton

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)
variable (h0 : xM.IsWhole) (h1 : wM.IsWhole) (h2 : oM.IsWhole) (h3 : yM.IsWhole)

/-- A program that has ended runs to what its value satisfies. -/
theorem ended {α : Type} {c : Dev nD} {P : sProp 𝕄} {v : α} {Q : α → sProp 𝕄} (h : P ⊢ Q v) : P ⊢ Runs c (.ret v) Q := by
  unfold Runs
  rw [wp_ret]
  exact h.trans fupd_intro

/-! ## The blocks and semaphores of a step, as the kernel computes them -/

section Spell
variable (c : Dev nD) (j : Fin 15)
theorem y_out (hi) : (yM.slice (Rect.unit (s := S16x64x64) (k0_off5 c (BitVec.ofNat 32 (1 + j.val))) S1x64x64.size hi) (fun _ => rfl)).squeeze S64x64 squeezes_S1x64x64_S64x64
    = yBlk (sh c j.val) := yBlk_of (k0_off5_eq c j) hi
theorem o_out (hi) : oM.slice (Rect.unit (s := S1024x64) (k0_off4 c) S64x64.size hi) (fun _ => rfl) = oBlk c := oBlk_of (k0_off4_eq c) hi
theorem s_own (hi) : ((cc0_scratch2.slice (Rect.unit (s := S16) (k0_off3 c) S1.size hi)).squeeze S_ squeezes_S1_S_).sem = recvS c :=
  recvS_of (k0_off3_eq c) hi
theorem s_in (hi) : ((cc0_scratch2.slice (Rect.unit (s := S16) (k0_off6 c (BitVec.ofNat 32 (1 + j.val))) S1.size hi)).squeeze S_ squeezes_S1_S_).sem
    = recvS (src c j.val) := recvS_of (k0_off6_eq c j) hi
theorem o_in (hi) : oM.slice (Rect.unit (s := S1024x64) (k0_off7 c (BitVec.ofNat 32 (1 + j.val))) S64x64.size hi) (fun _ => rfl) = oBlk (src c j.val) :=
  oBlk_of (k0_off7_eq c j) hi
end Spell

variable {c : Dev nD} {R : sProp (MT nD τ sig Unit (Elt F) ℕ UU ℕ)}

/-! ## The signals and the barrier -/

theorem part1_ok {Q} (h : ∀ v v', iprop(recs m ρ K ∗ SigSt c 5 ∗ R) ⊢ Q ⟨c, v, SemArray.scalar (sig.barrier 0 rfl), v', 16#32⟩) :
    iprop(recs m ρ K ∗ SigSt c 0 ∗ R) ⊢ Runs c (k0_part1 (F := F) xM h0 wM h1 oM h2 yM h3 cc0_scratch1 cc0_scratch2) Q := by
  rw [k0_part1_eq_skeleton]; unfold k0_part1_skel
  simp only [semSignalWord, wp_deviceId, Prog.lift, Prog.bind_op, Prog.bind_ret, Prog.pure_eq_ret]
  refine step_signal m ρ K 0 (Fin.ext (k0_dev1_eq c)) rfl ?_
  refine step_signal m ρ K 1 (Fin.ext (k0_dev2_eq c)) rfl ?_
  refine step_signal m ρ K 2 (Fin.ext (k0_dev3_eq c)) rfl ?_
  refine step_signal m ρ K 3 (Fin.ext (k0_dev4_eq c)) rfl ?_
  refine step_signal m ρ K 4 (Fin.ext (k0_dev5_eq c)) rfl ?_
  exact ended (h _ _)

theorem part2_ok {v v' w Q} (h : ∀ v, iprop(recs m ρ K ∗ SigSt c 11 ∗ R) ⊢ Q ⟨v, 16#32⟩) :
    iprop(recs m ρ K ∗ SigSt c 5 ∗ R) ⊢ Runs c (k0_part2 (F := F) xM h0 wM h1 oM h2 yM h3 cc0_scratch1 cc0_scratch2 c v (SemArray.scalar (sig.barrier 0 rfl)) v' w) Q := by
  rw [k0_part2_eq_skeleton]; unfold k0_part2_skel
  simp only [semSignalWord, Prog.lift, Prog.bind_op, Prog.bind_ret, Prog.pure_eq_ret]
  refine step_signal m ρ K 5 (Fin.ext (k0_dev6_eq c)) rfl ?_
  refine step_signal m ρ K 6 (Fin.ext (k0_dev7_eq c)) rfl ?_
  refine step_signal m ρ K 7 (Fin.ext (k0_dev8_eq c)) rfl ?_
  refine step_signal m ρ K 8 (Fin.ext (k0_dev9_eq c)) rfl ?_
  refine step_signal m ρ K 9 (Fin.ext (k0_dev10_eq c)) rfl ?_
  refine step_signal m ρ K 10 (Fin.ext (k0_dev11_eq c)) rfl ?_
  exact ended (h _)

theorem part3_ok {v v' w Q} (h : iprop(recs m ρ K ∗ MulSt m ρ c 1 ∗ BarGot c ∗ R) ⊢ Q ⟨prod m ρ c, part m ρ c 1⟩) :
    iprop(recs m ρ K ∗ SigSt c 11 ∗ BarSt c ∗ MulSt m ρ c 0 ∗ R)
      ⊢ Runs c (k0_part3 (F := F) xM h0 wM h1 oM h2 yM h3 cc0_scratch1 cc0_scratch2 c v (SemArray.scalar (sig.barrier 0 rfl)) v' w) Q := by
  rw [k0_part3_eq_skeleton]; unfold k0_part3_skel
  simp only [semSignalWord, semWaitWord, Prog.lift, Prog.bind_op, Prog.bind_ret, Prog.pure_eq_ret]
  refine step_signal m ρ K 11 (Fin.ext (k0_dev12_eq c)) rfl ?_
  refine step_signal m ρ K 12 (Fin.ext (k0_dev13_eq c)) rfl ?_
  refine step_signal m ρ K 13 (Fin.ext (k0_dev14_eq c)) rfl ?_
  refine step_signal m ρ K 14 (Fin.ext (k0_dev15_eq c)) rfl ?_
  refine step_barrier m ρ K rfl ?_
  refine swap ?_
  refine step_load_x m ρ K ?_
  refine step_load_w m ρ K ?_
  refine step_load_y m ρ K 0 rfl fun _ => ?_
  refine step_store_y m ρ K 0 rfl rfl ?_
  exact ended h

/-! ## The rest of the product -/

theorem part4_ok {Q} (h : iprop(recs m ρ K ∗ MulSt m ρ c 8 ∗ R) ⊢ Q (part m ρ c 8)) :
    iprop(recs m ρ K ∗ MulSt m ρ c 1 ∗ R) ⊢ Runs c (k0_part4 (F := F) xM h0 wM h1 oM h2 yM h3 cc0_scratch1 cc0_scratch2 (prod m ρ c) (part m ρ c 1)) Q := by
  rw [k0_part4_eq_skeleton]; unfold k0_part4_skel
  simp only [Prog.lift, Prog.bind_op, Prog.bind_ret, Prog.pure_eq_ret]
  refine step_load_y m ρ K 1 rfl fun _ => ?_
  refine step_store_y m ρ K 1 rfl rfl ?_
  refine step_load_y m ρ K 2 rfl fun _ => ?_
  refine step_store_y m ρ K 2 rfl rfl ?_
  refine step_load_y m ρ K 3 rfl fun _ => ?_
  refine step_store_y m ρ K 3 rfl rfl ?_
  refine step_load_y m ρ K 4 rfl fun _ => ?_
  refine step_store_y m ρ K 4 rfl rfl ?_
  refine step_load_y m ρ K 5 rfl fun _ => ?_
  refine step_store_y m ρ K 5 rfl rfl ?_
  refine step_load_y m ρ K 6 rfl fun _ => ?_
  refine step_store_y m ρ K 6 rfl rfl ?_
  refine step_load_y m ρ K 7 rfl fun _ => ?_
  refine step_store_y m ρ K 7 rfl rfl ?_
  refine step_load_y m ρ K 8 rfl fun _ => ?_
  exact ended h

theorem part5_ok {v Q} (h : iprop(recs m ρ K ∗ MulSt m ρ c 16 ∗ R) ⊢ Q ⟨⟩) :
    iprop(recs m ρ K ∗ MulSt m ρ c 8 ∗ R) ⊢ Runs c (k0_part5 (F := F) xM h0 wM h1 oM h2 yM h3 cc0_scratch1 cc0_scratch2 v (prod m ρ c) (part m ρ c 8)) Q := by
  rw [k0_part5_eq_skeleton]; unfold k0_part5_skel
  simp only [Prog.lift, Prog.bind_op, Prog.bind_ret, Prog.pure_eq_ret]
  refine step_store_y m ρ K 8 rfl rfl ?_
  refine step_load_y m ρ K 9 rfl fun _ => ?_
  refine step_store_y m ρ K 9 rfl rfl ?_
  refine step_load_y m ρ K 10 rfl fun _ => ?_
  refine step_store_y m ρ K 10 rfl rfl ?_
  refine step_load_y m ρ K 11 rfl fun _ => ?_
  refine step_store_y m ρ K 11 rfl rfl ?_
  refine step_load_y m ρ K 12 rfl fun _ => ?_
  refine step_store_y m ρ K 12 rfl rfl ?_
  refine step_load_y m ρ K 13 rfl fun _ => ?_
  refine step_store_y m ρ K 13 rfl rfl ?_
  refine step_load_y m ρ K 14 rfl fun _ => ?_
  refine step_store_y m ρ K 14 rfl rfl ?_
  refine step_load_y m ρ K 15 rfl fun _ => ?_
  refine step_store_y m ρ K 15 rfl rfl ?_
  exact ended h

/-! ## Its own block, and the sends -/

theorem part6_ok {v Q} (h : ∀ v, iprop(recs m ρ K ∗ SendSt m ρ c 2 ∗ OwnDone m ρ c ∗ R) ⊢ Q v) :
    iprop(recs m ρ K ∗ OwnSt m ρ c ∗ SendSt m ρ c 0 ∗ R) ⊢ Runs c (k0_part6 (F := F) xM h0 wM h1 oM h2 yM h3 cc0_scratch1 cc0_scratch2 c v) Q := by
  rw [k0_part6_eq_skeleton]; unfold k0_part6_skel
  simp only [Prog.lift, Prog.bind_op, Prog.bind_ret, Prog.pure_eq_ret]
  refine step_load_own m ρ K (k0_off1_eq c) fun v hv => ?_
  refine step_load_o m ρ K (k0_off2_eq c) fun _ => ?_
  refine step_store_o m ρ K (k0_off2_eq c) hv ?_
  refine swap ?_
  refine step_send m ρ K 0 (Fin.ext (k0_dev16_eq c)) (y_out c 0 _) (o_out c _) (sendS_of rfl _) (s_own c _) ?_
  refine step_send m ρ K 1 (Fin.ext (k0_dev17_eq c)) (y_out c 1 _) (o_out c _) (sendS_of rfl _) (s_own c _) ?_
  exact ended (h _)

theorem part7_ok {v v' Q} (h : ∀ v, iprop(recs m ρ K ∗ SendSt m ρ c 5 ∗ R) ⊢ Q v) :
    iprop(recs m ρ K ∗ SendSt m ρ c 2 ∗ R) ⊢ Runs c (k0_part7 (F := F) xM h0 wM h1 oM h2 yM h3 cc0_scratch1 cc0_scratch2 c v v') Q := by
  rw [k0_part7_eq_skeleton]; unfold k0_part7_skel
  simp only [Prog.lift, Prog.bind_op, Prog.bind_ret, Prog.pure_eq_ret]
  refine step_send m ρ K 2 (Fin.ext (k0_dev18_eq c)) (y_out c 2 _) (o_out c _) (sendS_of rfl _) (s_own c _) ?_
  refine step_send m ρ K 3 (Fin.ext (k0_dev19_eq c)) (y_out c 3 _) (o_out c _) (sendS_of rfl _) (s_own c _) ?_
  refine step_send m ρ K 4 (Fin.ext (k0_dev20_eq c)) (y_out c 4 _) (o_out c _) (sendS_of rfl _) (s_own c _) ?_
  exact ended (h _)

theorem part8_ok {v v' Q} (h : iprop(recs m ρ K ∗ SendSt m ρ c 7 ∗ R) ⊢ Q ⟨⟩) :
    iprop(recs m ρ K ∗ SendSt m ρ c 5 ∗ R) ⊢ Runs c (k0_part8 (F := F) xM h0 wM h1 oM h2 yM h3 cc0_scratch1 cc0_scratch2 c v v') Q := by
  rw [k0_part8_eq_skeleton]; unfold k0_part8_skel
  simp only [Prog.lift, Prog.bind_op, Prog.bind_ret, Prog.pure_eq_ret]
  refine step_send m ρ K 5 (Fin.ext (k0_dev21_eq c)) (y_out c 5 _) (o_out c _) (sendS_of rfl _) (s_own c _) ?_
  refine step_send m ρ K 6 (Fin.ext (k0_dev22_eq c)) (y_out c 6 _) (o_out c _) (sendS_of rfl _) (s_own c _) ?_
  exact ended h

theorem part9_ok {v Q} (h : iprop(recs m ρ K ∗ SendSt m ρ c 10 ∗ R) ⊢ Q ⟨⟩) :
    iprop(recs m ρ K ∗ SendSt m ρ c 7 ∗ R) ⊢ Runs c (k0_part9 (F := F) xM h0 wM h1 oM h2 yM h3 cc0_scratch1 cc0_scratch2 c v) Q := by
  rw [k0_part9_eq_skeleton]; unfold k0_part9_skel
  simp only [Prog.lift, Prog.bind_op, Prog.bind_ret, Prog.pure_eq_ret]
  refine step_send m ρ K 7 (Fin.ext (k0_dev23_eq c)) (y_out c 7 _) (o_out c _) (sendS_of rfl _) (s_own c _) ?_
  refine step_send m ρ K 8 (Fin.ext (k0_dev24_eq c)) (y_out c 8 _) (o_out c _) (sendS_of rfl _) (s_own c _) ?_
  refine step_send m ρ K 9 (Fin.ext (k0_dev25_eq c)) (y_out c 9 _) (o_out c _) (sendS_of rfl _) (s_own c _) ?_
  exact ended h

theorem part10_ok {v Q} (h : ∀ v v', iprop(recs m ρ K ∗ SendSt m ρ c 13 ∗ R) ⊢ Q ⟨v, v'⟩) :
    iprop(recs m ρ K ∗ SendSt m ρ c 10 ∗ R) ⊢ Runs c (k0_part10 (F := F) xM h0 wM h1 oM h2 yM h3 cc0_scratch1 cc0_scratch2 c v) Q := by
  rw [k0_part10_eq_skeleton]; unfold k0_part10_skel
  simp only [Prog.lift, Prog.bind_op, Prog.bind_ret, Prog.pure_eq_ret]
  refine step_send m ρ K 10 (Fin.ext (k0_dev26_eq c)) (y_out c 10 _) (o_out c _) (sendS_of rfl _) (s_own c _) ?_
  refine step_send m ρ K 11 (Fin.ext (k0_dev27_eq c)) (y_out c 11 _) (o_out c _) (sendS_of rfl _) (s_own c _) ?_
  refine step_send m ρ K 12 (Fin.ext (k0_dev28_eq c)) (y_out c 12 _) (o_out c _) (sendS_of rfl _) (s_own c _) ?_
  exact ended (h _ _)

theorem part11_ok {v v' w Q} (h : iprop(recs m ρ K ∗ SendSt m ρ c 15 ∗ R) ⊢ Q ⟨⟩) :
    iprop(recs m ρ K ∗ SendSt m ρ c 13 ∗ R) ⊢ Runs c (k0_part11 (F := F) xM h0 wM h1 oM h2 yM h3 cc0_scratch1 cc0_scratch2 c v v' w) Q := by
  rw [k0_part11_eq_skeleton]; unfold k0_part11_skel
  simp only [Prog.lift, Prog.bind_op, Prog.bind_ret, Prog.pure_eq_ret]
  refine step_send m ρ K 13 (Fin.ext (k0_dev29_eq c)) (y_out c 13 _) (o_out c _) (sendS_of rfl _) (s_own c _) ?_
  refine step_send m ρ K 14 (Fin.ext (k0_dev30_eq c)) (y_out c 14 _) (o_out c _) (sendS_of rfl _) (s_own c _) ?_
  exact ended h

/-! ## The waits -/

theorem part12_ok {v Q} (h : iprop(recs m ρ K ∗ RecvSt m ρ c 3 ∗ R) ⊢ Q ⟨⟩) :
    iprop(recs m ρ K ∗ RecvSt m ρ c 0 ∗ R) ⊢ Runs c (k0_part12 (F := F) xM h0 wM h1 oM h2 yM h3 cc0_scratch1 cc0_scratch2 c v) Q := by
  rw [k0_part12_eq_skeleton]; unfold k0_part12_skel
  simp only [Prog.lift, Prog.bind_op, Prog.bind_ret, Prog.pure_eq_ret]
  refine step_recv m ρ K 0 (s_in c 0 _) (o_in c 0 _) ?_
  refine step_recv m ρ K 1 (s_in c 1 _) (o_in c 1 _) ?_
  refine step_recv m ρ K 2 (s_in c 2 _) (o_in c 2 _) ?_
  exact ended h

theorem part13_ok {v Q} (h : ∀ v, iprop(recs m ρ K ∗ RecvSt m ρ c 6 ∗ R) ⊢ Q v) :
    iprop(recs m ρ K ∗ RecvSt m ρ c 3 ∗ R) ⊢ Runs c (k0_part13 (F := F) xM h0 wM h1 oM h2 yM h3 cc0_scratch1 cc0_scratch2 c v) Q := by
  rw [k0_part13_eq_skeleton]; unfold k0_part13_skel
  simp only [Prog.lift, Prog.bind_op, Prog.bind_ret, Prog.pure_eq_ret]
  refine step_recv m ρ K 3 (s_in c 3 _) (o_in c 3 _) ?_
  refine step_recv m ρ K 4 (s_in c 4 _) (o_in c 4 _) ?_
  refine step_recv m ρ K 5 (s_in c 5 _) (o_in c 5 _) ?_
  exact ended (h _)

theorem part14_ok {v v' Q} (h : ∀ v v', iprop(recs m ρ K ∗ RecvSt m ρ c 9 ∗ R) ⊢ Q ⟨v, v'⟩) :
    iprop(recs m ρ K ∗ RecvSt m ρ c 6 ∗ R) ⊢ Runs c (k0_part14 (F := F) xM h0 wM h1 oM h2 yM h3 cc0_scratch1 cc0_scratch2 c v v') Q := by
  rw [k0_part14_eq_skeleton]; unfold k0_part14_skel
  simp only [Prog.lift, Prog.bind_op, Prog.bind_ret, Prog.pure_eq_ret]
  refine step_recv m ρ K 6 (s_in c 6 _) (o_in c 6 _) ?_
  refine step_recv m ρ K 7 (s_in c 7 _) (o_in c 7 _) ?_
  refine step_recv m ρ K 8 (s_in c 8 _) (o_in c 8 _) ?_
  exact ended (h _ _)

theorem part15_ok {v v' w Q} (h : iprop(recs m ρ K ∗ RecvSt m ρ c 11 ∗ R) ⊢ Q ⟨⟩) :
    iprop(recs m ρ K ∗ RecvSt m ρ c 9 ∗ R) ⊢ Runs c (k0_part15 (F := F) xM h0 wM h1 oM h2 yM h3 cc0_scratch1 cc0_scratch2 c v v' w) Q := by
  rw [k0_part15_eq_skeleton]; unfold k0_part15_skel
  simp only [Prog.lift, Prog.bind_op, Prog.bind_ret, Prog.pure_eq_ret]
  refine step_recv m ρ K 9 (s_in c 9 _) (o_in c 9 _) ?_
  refine step_recv m ρ K 10 (s_in c 10 _) (o_in c 10 _) ?_
  exact ended h

theorem part16_ok {v Q} (h : iprop(recs m ρ K ∗ RecvSt m ρ c 14 ∗ R) ⊢ Q ⟨⟩) :
    iprop(recs m ρ K ∗ RecvSt m ρ c 11 ∗ R) ⊢ Runs c (k0_part16 (F := F) xM h0 wM h1 oM h2 yM h3 cc0_scratch1 cc0_scratch2 c v) Q := by
  rw [k0_part16_eq_skeleton]; unfold k0_part16_skel
  simp only [Prog.lift, Prog.bind_op, Prog.bind_ret, Prog.pure_eq_ret]
  refine step_recv m ρ K 11 (s_in c 11 _) (o_in c 11 _) ?_
  refine step_recv m ρ K 12 (s_in c 12 _) (o_in c 12 _) ?_
  refine step_recv m ρ K 13 (s_in c 13 _) (o_in c 13 _) ?_
  exact ended h

/-- What the sends leave to wait with, and what the receipts have brought. -/
def BackPre (c : Dev nD) : sProp 𝕄 :=
  bigSep Finset.univ fun j : Fin 15 => iprop(atPos ER (sendCell c j) 0 ∅ 0 ∗ cred (tallyAt (sendCell c j) () N))
def RecvDone (c : Dev nD) : sProp 𝕄 :=
  bigSep Finset.univ fun j : Fin 15 => iprop(semVal (recvCell c (src c j.val)) 0 ∗ recvPay m ρ c (src c j.val))

/-- Everything received, the waits for one's own sends begin. -/
theorem recv_to_back {G : sProp 𝕄} (h : iprop(recs m ρ K ∗ BackSt m ρ c 0 ∗ RecvDone m ρ c ∗ R) ⊢ G) :
    iprop(recs m ρ K ∗ RecvSt m ρ c 15 ∗ BackPre c ∗ R) ⊢ G := by
  unfold BackSt RecvDone at h
  rw [prog_zero] at h
  unfold RecvSt BackPre
  rw [prog_all]
  iintro ⟨HI, ⟨Hd, HO⟩, Hb, HR⟩
  iapply h
  isplitl [HI]; · iexact HI
  isplitl [Hb HO]
  · isplitl [Hb] <;> iassumption
  isplitl [Hd] <;> iassumption

theorem part17_ok {Q} (h : iprop(recs m ρ K ∗ BackSt m ρ c 4 ∗ RecvDone m ρ c ∗ R) ⊢ Q ⟨⟩) :
    iprop(recs m ρ K ∗ RecvSt m ρ c 14 ∗ BackPre c ∗ R) ⊢ Runs c (k0_part17 (F := F) xM h0 wM h1 oM h2 yM h3 cc0_scratch1 cc0_scratch2 c) Q := by
  rw [k0_part17_eq_skeleton]; unfold k0_part17_skel
  simp only [Prog.lift, Prog.bind_op, Prog.bind_ret, Prog.pure_eq_ret]
  refine step_recv m ρ K 14 (s_in c 14 _) (o_in c 14 _) ?_
  refine recv_to_back m ρ K ?_
  refine step_back m ρ K 0 (sendS_of rfl _) (y_out c 0 _) ?_
  refine step_back m ρ K 1 (sendS_of rfl _) (y_out c 1 _) ?_
  refine step_back m ρ K 2 (sendS_of rfl _) (y_out c 2 _) ?_
  refine step_back m ρ K 3 (sendS_of rfl _) (y_out c 3 _) ?_
  exact ended h

theorem part18_ok {Q} (h : iprop(recs m ρ K ∗ BackSt m ρ c 10 ∗ R) ⊢ Q ⟨⟩) :
    iprop(recs m ρ K ∗ BackSt m ρ c 4 ∗ R) ⊢ Runs c (k0_part18 (F := F) xM h0 wM h1 oM h2 yM h3 cc0_scratch1 cc0_scratch2 c) Q := by
  rw [k0_part18_eq_skeleton]; unfold k0_part18_skel
  simp only [Prog.lift, Prog.bind_op, Prog.bind_ret, Prog.pure_eq_ret]
  refine step_back m ρ K 4 (sendS_of rfl _) (y_out c 4 _) ?_
  refine step_back m ρ K 5 (sendS_of rfl _) (y_out c 5 _) ?_
  refine step_back m ρ K 6 (sendS_of rfl _) (y_out c 6 _) ?_
  refine step_back m ρ K 7 (sendS_of rfl _) (y_out c 7 _) ?_
  refine step_back m ρ K 8 (sendS_of rfl _) (y_out c 8 _) ?_
  refine step_back m ρ K 9 (sendS_of rfl _) (y_out c 9 _) ?_
  exact ended h

end Cert.Exchange

end

end
-- ==== Proof.Body.lean ====
/- The kernel's body as a whole: the parts in order, and how the state of one phase becomes that of the next. -/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## From phase to phase -/

/-- What the waits for incoming blocks start from. -/
def RecvPre (c : Dev nD) : sProp 𝕄 :=
  bigSep Finset.univ fun j : Fin 15 => iprop(atPos ER (recvCell c (src c j.val)) 0 ∅ 0 ∗ cred (tallyAt (recvCell c (src c j.val)) () N))
/-- The positions on the send semaphores. -/
def SendPos (c : Dev nD) : sProp 𝕄 := bigSep Finset.univ fun j : Fin 15 => atPos ER (sendCell c j) 0 ∅ 0
/-- The tokens for the transfers: of the sender's duties and of the receivers'. -/
def SendToks (c : Dev nD) : sProp 𝕄 :=
  iprop((bigSep Finset.univ fun j : Fin 15 => dutyTok ER (sendCell c j) 0 0)
    ∗ bigSep Finset.univ fun j : Fin 15 => dutyTok ER (recvCell (sh c j.val) c) 0 0)
/-- The two factors, held unchanged. -/
def Factors (c : Dev nD) : sProp 𝕄 :=
  iprop((((c : Thread nD τ).loc cc0_stg0_0) ↦{fullShare} xstg m ρ c) ∗ (((c : Thread nD τ).loc cc0_stg1_0) ↦{fullShare} wstg m ρ c))

/-- Kept aside up to the sends, up to the first wait, and up to the end. -/
def Keep (c : Dev nD) : sProp 𝕄 := iprop(oAny c c ∗ SendToks c ∗ RecvPre c ∗ SendPos c)
def Keep2 (c : Dev nD) : sProp 𝕄 := iprop(Factors m ρ c ∗ semVal (barCell c) 0 ∗ RecvPre c ∗ SendPos c)
def Keep3 (c : Dev nD) : sProp 𝕄 := iprop(OwnDone m ρ c ∗ Factors m ρ c ∗ semVal (barCell c) 0)

variable {c : Dev nD} {R : sProp (MT nD τ sig Unit (Elt F) ℕ UU ℕ)}

omit [FloatOps F] in
/-- The rows a device was handed, counted by the peers that handed them over, counted by the peers to send to. -/
theorem rows_forward : (bigSep Finset.univ fun j : Fin 15 => (oAny (src c j.val) c : sProp 𝕄))
    = bigSep Finset.univ fun j : Fin 15 => oAny (sh c j.val) c := by
  rw [bigSep_univ_equiv Fin.revPerm fun j : Fin 15 => (oAny (sh c j.val) c : sProp 𝕄)]
  simp only [Fin.revPerm_apply, sh_rev]

/-- The product stored and the barrier passed, everything for the sends is at hand. -/
theorem to_send {G : sProp 𝕄} (h : iprop(recs m ρ K ∗ OwnSt m ρ c ∗ SendSt m ρ c 0 ∗ Keep2 m ρ c ∗ R) ⊢ G) :
    iprop(recs m ρ K ∗ MulSt m ρ c 16 ∗ BarGot c ∗ Keep c ∗ R) ⊢ G := by
  have e : iprop(recs m ρ K ∗ MulSt m ρ c 16 ∗ BarGot c ∗ Keep c ∗ R)
      ⊢ iprop(recs m ρ K ∗ OwnSt m ρ c ∗ SendSt m ρ c 0 ∗ Keep2 m ρ c ∗ R) := by
    unfold MulSt BarGot Keep SendToks OwnSt SendSt Keep2 Factors
    rw [prog_all, prog_zero, bigSep_peers c fun b => yHas c b (part m ρ c b), rows_forward,
      bigSep_sep', bigSep_sep', bigSep_sep']
    iintro ⟨HI, ⟨Hx, Hw, Hyc, Hys⟩, ⟨Hz, Ho, HO⟩, ⟨Hoc, ⟨Hts, Htr⟩, Hrp, Hsp⟩, HR⟩
    isplitl [HI]; · iexact HI
    isplitl [Hyc Hoc]
    · isplitl [Hyc] <;> iassumption
    isplitl [Hys Ho HO Hts Htr]
    · isplitr [HO]
      · isplitl [Hts]; · iexact Hts
        isplitl [Htr]; · iexact Htr
        isplitl [Ho] <;> iassumption
      iexact HO
    isplitr [HR]
    · isplitl [Hx Hw]
      · isplitl [Hx] <;> iassumption
      isplitl [Hz]; · iexact Hz
      isplitl [Hrp] <;> iassumption
    iexact HR
  exact e.trans h

/-- Everything sent, the waits for incoming blocks begin. -/
theorem to_recv {G : sProp 𝕄} (h : iprop(recs m ρ K ∗ RecvSt m ρ c 0 ∗ BackPre c ∗ Keep3 m ρ c ∗ R) ⊢ G) :
    iprop(recs m ρ K ∗ SendSt m ρ c 15 ∗ OwnDone m ρ c ∗ Keep2 m ρ c ∗ R) ⊢ G := by
  have hO : oSend c 15 = 0 := by unfold oSend; rw [progSum_all]
  have e : iprop(recs m ρ K ∗ SendSt m ρ c 15 ∗ OwnDone m ρ c ∗ Keep2 m ρ c ∗ R)
      ⊢ iprop(recs m ρ K ∗ RecvSt m ρ c 0 ∗ BackPre c ∗ Keep3 m ρ c ∗ R) := by
    unfold SendSt Keep2 RecvSt BackPre Keep3 RecvPre SendPos
    rw [prog_all, prog_zero, hO, bigSep_sep', bigSep_sep']
    iintro ⟨HI, ⟨Hc, HO⟩, Hod, ⟨Hf, Hz, ⟨Hra, Hrc⟩, Hsp⟩, HR⟩
    isplitl [HI]; · iexact HI
    isplitl [Hra Hrc HO]
    · isplitr [HO]
      · isplitl [Hra] <;> iassumption
      iexact HO
    isplitl [Hc Hsp]
    · isplitl [Hsp] <;> iassumption
    isplitr [HR]
    · isplitl [Hod]; · iexact Hod
      isplitl [Hf] <;> iassumption
    iexact HR
  exact e.trans h

/-! ## The parts in order -/

/-- To run one program and then another is to run the first to where the second runs. -/
theorem bind_ok {α β : Type} {P : sProp 𝕄} {p : Prog (TpuEff nD τ sig (Elt F) Λ₀ .tc) α}
    {k : α → Prog (TpuEff nD τ sig (Elt F) Λ₀ .tc) β} {Q : β → sProp 𝕄}
    (h : P ⊢ Runs c p fun a => Runs c (k a) Q) : P ⊢ Runs c (p >>= k) Q := by
  unfold Runs; rw [wp_bind]; exact h

variable (h0 : xM.IsWhole) (h1 : wM.IsWhole) (h2 : oM.IsWhole) (h3 : yM.IsWhole)

/-- The kernel but for its last two waits. -/
theorem part19_ok {Q} (h : iprop(recs m ρ K ∗ BackSt m ρ c 13 ∗ RecvDone m ρ c ∗ Keep3 m ρ c ∗ R) ⊢ Q c) :
    iprop(recs m ρ K ∗ SigSt c 0 ∗ BarSt c ∗ MulSt m ρ c 0 ∗ Keep c ∗ R)
      ⊢ Runs c (k0_part19 (F := F) xM h0 wM h1 oM h2 yM h3 cc0_scratch1 cc0_scratch2) Q := by
  rw [k0_part19_eq_skeleton]; unfold k0_part19_skel
  refine bind_ok (part1_ok m ρ K h0 h1 h2 h3 fun v v' => ?_)
  refine bind_ok (part2_ok m ρ K h0 h1 h2 h3 fun v => ?_)
  refine bind_ok (part3_ok m ρ K h0 h1 h2 h3 ?_)
  refine bind_ok (part4_ok m ρ K h0 h1 h2 h3 ?_)
  refine bind_ok (part5_ok m ρ K h0 h1 h2 h3 ?_)
  refine to_send m ρ K ?_
  refine bind_ok (part6_ok m ρ K h0 h1 h2 h3 fun v => ?_)
  refine bind_ok (part7_ok m ρ K h0 h1 h2 h3 fun v => ?_)
  refine bind_ok (part8_ok m ρ K h0 h1 h2 h3 ?_)
  refine bind_ok (part9_ok m ρ K h0 h1 h2 h3 ?_)
  refine bind_ok (part10_ok m ρ K h0 h1 h2 h3 fun v v' => ?_)
  refine bind_ok (part11_ok m ρ K h0 h1 h2 h3 ?_)
  refine to_recv m ρ K ?_
  refine bind_ok (part12_ok m ρ K h0 h1 h2 h3 ?_)
  refine bind_ok (part13_ok m ρ K h0 h1 h2 h3 fun v => ?_)
  refine bind_ok (part14_ok m ρ K h0 h1 h2 h3 fun v v' => ?_)
  refine bind_ok (part15_ok m ρ K h0 h1 h2 h3 ?_)
  refine bind_ok (part16_ok m ρ K h0 h1 h2 h3 ?_)
  refine bind_ok (part17_ok m ρ K h0 h1 h2 h3 ?_)
  refine bind_ok (part18_ok m ρ K h0 h1 h2 h3 ?_)
  simp only [Prog.lift, Prog.bind_op, Prog.bind_ret, Prog.pure_eq_ret]
  refine step_back m ρ K 10 (sendS_of rfl _) (y_out c 10 _) ?_
  refine step_back m ρ K 11 (sendS_of rfl _) (y_out c 11 _) ?_
  refine step_back m ρ K 12 (sendS_of rfl _) (y_out c 12 _) ?_
  exact ended h

/-- The kernel: from the tokens, credits and blocks it is given to every block in its place and every semaphore done with. -/
theorem body_run {Q} (h : iprop(recs m ρ K ∗ BackSt m ρ c 15 ∗ RecvDone m ρ c ∗ Keep3 m ρ c ∗ R) ⊢ Q ⟨⟩) :
    iprop(recs m ρ K ∗ SigSt c 0 ∗ BarSt c ∗ MulSt m ρ c 0 ∗ Keep c ∗ R)
      ⊢ Runs c (cc0_body (F := F) xM h0 wM h1 oM h2 yM h3 cc0_scratch1 cc0_scratch2) Q := by
  rw [cc0_body_eq_skeleton]; unfold cc0_body_skel
  refine bind_ok (part19_ok m ρ K h0 h1 h2 h3 ?_)
  simp only [Prog.lift, Prog.bind_op, Prog.bind_ret, Prog.pure_eq_ret]
  refine step_back m ρ K 13 (sendS_of rfl _) (y_out c 13 _) ?_
  refine step_back m ρ K 14 (sendS_of rfl _) (y_out c 14 _) ?_
  exact ended h

end Cert.Exchange

end

end
-- ==== Proof.Obligation.lean ====
/- What the pipeline asks of the kernel's body: what it starts from, what it leaves, and that it does. -/
module

public import Idealize.ShloMosaic.Lib.Pipeline.Launch
public import Idealize.ShloMosaic.Lib.Pipeline.Kit
public import proofs.«01_k».proof.Proof.Gen.KernelIdeal.Launch
public import proofs.«01_k».proof.Proof.Gen.KernelIdeal.Points
public import proofs.«01_k».proof.Proof.Blocks
public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- The result on device `c`: rows `64 d` on are what device `d` computed for `c`. -/
def outAt (c : Dev nD) : (cc0_stg2_0 : Ref sig .tc).ty.Contents (Elt F) := whole fun d => part m ρ d c

/-! ## The start and the end -/

/-- The tokens of the duties device `c` pays. -/
def toks (c : Dev nD) : sProp 𝕄 :=
  iprop((bigSep Finset.univ fun j : Fin 15 => dutyTok ER (barCell (sh c j.val)) 0 j) ∗ SendToks c)
/-- The positions of device `c` on its semaphores. -/
def poss (c : Dev nD) : sProp 𝕄 :=
  iprop(atPos ER (barCell c) 0 ∅ 0 ∗ SendPos c ∗ bigSep Finset.univ fun d : Dev nD => atPos ER (recvCell c d) 0 ∅ 0)
/-- The credits launched for device `c`: fifteen signals, fifteen blocks. -/
def credits (c : Dev nD) : sProp 𝕄 :=
  iprop(cred (tallyAt (barCell c) () 15) ∗ bigSep Finset.univ fun j : Fin 15 => cred (tallyAt (recvCell c (src c j.val)) () N))

def ghost (c : Dev nD) : sProp 𝕄 := iprop(∃ K, recs m ρ K ∗ poss c ∗ toks c)
def start (c : Dev nD) : sProp 𝕄 := iprop(ghost m ρ c ∗ credits c ∗ levAts L lv)

/-- The stack of products, whatever it holds. -/
def stack (c : Dev nD) : sProp 𝕄 :=
  iprop(∃ f : Buf (Elt F) ((c : Thread nD τ).loc cc0_scratch0), ((c : Thread nD τ).loc cc0_scratch0) ↦{fullShare} f)
/-- Every semaphore of the device back at zero. -/
def zeros (c : Dev nD) : sProp 𝕄 :=
  iprop(semVal (barCell c) 0 ∗ (bigSep Finset.univ fun j : Fin 15 => semVal (sendCell c j) 0)
    ∗ bigSep Finset.univ fun d : Dev nD => semVal (recvCell c d) 0)

def Φ₀ (c : Dev nD) : sProp 𝕄 := iprop(start m ρ c ∗ stack c)
def Φ₁ (c : Dev nD) : sProp 𝕄 := iprop(stack (F := F) c ∗ zeros c)

/-- The pipeline's data: the inputs stay, the result ends at `outAt`; the debts of the launch are all paid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body meets it -/

variable {c : Dev nD}

/-- The result's buffer, held whole. -/
abbrev outHas (c : Dev nD) (f : Buf (Elt F) ((c : Thread nD τ).loc cc0_stg2_0)) : sProp 𝕄 :=
  ((c : Thread nD τ).loc cc0_stg2_0) ↦{fullShare} f

/-- What the launch gives is what the body starts from, but that one's own receive semaphore, which nothing
    signals, is done with at once. -/
theorem begin_ok (f : Buf (Elt F) ((c : Thread nD τ).loc cc0_stg2_0)) :
    iprop(recs m ρ K ∗ (poss c ∗ toks c ∗ credits c ∗ levAts L lv ∗ stack c) ∗ due c (O₀ c) ∗ Factors m ρ c ∗ outHas c f)
      ⊢ |={Set.univ}=> iprop(recs m ρ K ∗ SigSt c 0 ∗ BarSt c ∗ MulSt m ρ c 0 ∗ Keep c ∗ semVal (recvCell c c) 0) := by
  unfold poss toks credits stack SigSt BarSt MulSt Keep RecvPre Factors outHas O₀
  rw [prog_zero, prog_zero, bigSep_sep', bigSep_sep', bigSep_peers_back c fun d => atPos ER (recvCell c d) 0 ∅ 0]
  iintro ⟨#HI, ⟨⟨Hpb, Hps, Hpo, Hpr⟩, ⟨Htb, Hts⟩, ⟨Hcb, Hcr⟩, Hlev, ⟨%g, Hy⟩⟩, HO, ⟨Hx, Hw⟩, Hout⟩
  ihave Hyb := (y_split c g) $$ Hy
  ihave Hob := ((o_split c f).trans (Entails.of_eq (bigSep_peers c fun b => oAny c b))) $$ Hout
  icases Hob with ⟨Hoc, Hos⟩
  imod (Rounds.cell_close ER (exRd m ρ) (Set.mem_univ (K (c, .inr (.inr c)))) (fun h => h) (R := 0)
    (fun r _ => duties_self m ρ c r)) $$ [Hpo] with Hz
  · isplitr; · iapply (inv_recv m ρ K c c); iexact HI
    iexact Hpo
  imodintro
  isplitr; · iexact HI
  isplitl [Htb Hos HO]
  · isplitr [HO]
    · isplitl [Htb] <;> iassumption
    iexact HO
  isplitl [Hpb Hcb Hlev]
  · isplitl [Hpb]; · iexact Hpb
    isplitl [Hcb] <;> iassumption
  isplitl [Hx Hw Hyb]
  · isplitl [Hx]; · iexact Hx
    isplitl [Hw] <;> iassumption
  isplitr [Hz]
  · isplitl [Hoc]; · iexact Hoc
    isplitl [Hts]; · iexact Hts
    isplitr [Hps]
    · isplitl [Hpr] <;> iassumption
    iexact Hps
  iexact Hz

/-- What the body ends with is the stack and the result whole, and every semaphore at zero. -/
theorem finish_ok :
    iprop(recs m ρ K ∗ BackSt m ρ c 15 ∗ RecvDone m ρ c ∗ Keep3 m ρ c ∗ semVal (recvCell c c) 0)
      ⊢ iprop(Φ₁ c ∗ due c 0 ∗ Factors m ρ c ∗ outHas c (outAt m ρ c)) := by
  have hy : iprop(yHas c c (part m ρ c c) ∗ bigSep Finset.univ fun j : Fin 15 => sendPay m ρ c j.val) ⊢ stack c := by
    unfold stack sendPay
    exact (Entails.of_eq (bigSep_peers c fun b => yHas c b (part m ρ c b)).symm).trans (y_join c fun b => part m ρ c b)
  have ho : iprop(oHas c c (part m ρ c c) ∗ bigSep Finset.univ fun j : Fin 15 => recvPay m ρ c (src c j.val)) ⊢ outHas c (outAt m ρ c) := by
    unfold recvPay outAt outHas
    exact (Entails.of_eq (bigSep_peers_back c fun d => oHas c d (part m ρ d c)).symm).trans (o_join c fun d => part m ρ d c)
  unfold BackSt RecvDone Keep3 OwnDone Φ₁ zeros
  rw [prog_all, bigSep_sep', bigSep_sep', bigSep_peers_back c fun d => semVal (recvCell c d) 0]
  iintro ⟨-, ⟨⟨Hzs, Hys⟩, HO⟩, ⟨Hzr, Hos⟩, ⟨⟨Hyc, Hoc⟩, Hf, Hzb⟩, Hzc⟩
  isplitl [Hys Hyc Hzs Hzr Hzb Hzc]
  · isplitl [Hys Hyc]
    · iapply hy
      isplitl [Hyc] <;> iassumption
    isplitl [Hzb]; · iexact Hzb
    isplitl [Hzs]; · iexact Hzs
    isplitl [Hzc] <;> iassumption
  isplitl [HO]; · iexact HO
  isplitl [Hf]; · iexact Hf
  iapply ho
  isplitl [Hoc] <;> iassumption

/-! ## The obligation -/

/-- A buffer of the device held whole, reading `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)
omit [FloatOps F] in
theorem holds_eq (c : Dev nD) (b : Ref sig .tc) (X : b.ty.Contents (Elt F)) :
    (owns (c : Thread nD τ) (Memref.whole b) fullShare X : sProp 𝕄) = holds c b X := by
  unfold owns; simp only [Memref.view_whole, View.read_whole, View.set_whole]

omit [FloatOps F] in
/-- A conjunction over the windows is the three windows' parts. -/
theorem windows (Φ : Fin cfg0.W → sProp 𝕄) :
    bigSep Finset.univ Φ = iprop(Φ (0 : Fin 3) ∗ Φ (1 : Fin 3) ∗ Φ (2 : Fin 3)) := bigSep_W0 Φ
theorem all_points (t : Fin cfg0.N) : t = t0_0 := fin_N0 t

/-- What the pipeline hands the body, and what it takes back. -/
def before (c : Dev nD) : sProp 𝕄 :=
  iprop(Φ₀ m ρ c ∗ (dats m ρ 0 c).owesAt () t0_0.castSucc
    ∗ (∃ d, holds c cc0_stg0_0 ((dats m ρ 0 c).before (0 : Fin 3) t0_0 d))
    ∗ (∃ d, holds c cc0_stg1_0 ((dats m ρ 0 c).before (1 : Fin 3) t0_0 d))
    ∗ ∃ d, holds c cc0_stg2_0 ((dats m ρ 0 c).before (2 : Fin 3) t0_0 d))
def after (c : Dev nD) : sProp 𝕄 :=
  iprop(Φ₁ c ∗ (dats m ρ 0 c).owesAt () t0_0.succ
    ∗ holds c cc0_stg0_0 (xstg m ρ c) ∗ holds c cc0_stg1_0 (wstg m ρ c) ∗ holds c cc0_stg2_0 (outAt m ρ c))

theorem fetch_x (t : Fin cfg0.N) : (cfg0.win (0 : Fin 3)).fetch t = true := fetch0_0 t
theorem fetch_w (t : Fin cfg0.N) : (cfg0.win (1 : Fin 3)).fetch t = true := fetch0_1 t

/-- What the pipeline hands over is a start. -/
theorem before_start (c : Dev nD) : before m ρ c
    ⊢ iprop(∃ K f, recs m ρ K ∗ (poss c ∗ toks c ∗ credits c ∗ levAts L lv ∗ stack c) ∗ due c (O₀ c) ∗ Factors m ρ c ∗ outHas c f) := by
  unfold before Φ₀ start ghost Factors outHas due Dat.owesAt Pipeline.owesWithin
  rw [show (dats m ρ 0 c).owed t0_0.castSucc = O₀ c from rfl]
  iintro ⟨⟨⟨⟨%K, HI, Hp, Ht⟩, Hc, Hl⟩, Hy⟩, ⟨%W, -, HO⟩, ⟨%d0, %g0, %hg0, Hx⟩, ⟨%d1, %g1, %hg1, Hw⟩, ⟨%d2, %g2, -, Ho⟩⟩
  have hx : g0 = xstg m ρ c := by rw [hg0]; unfold Dat.before; rw [if_pos (fetch_x t0_0)]; rfl
  have hw : g1 = wstg m ρ c := by rw [hg1]; unfold Dat.before; rw [if_pos (fetch_w t0_0)]; rfl
  subst hx hw
  iexists K, g2
  isplitl [HI]; · iexact HI
  isplitl [Hp Ht Hc Hl Hy]
  · isplitl [Hp]; · iexact Hp
    isplitl [Ht]; · iexact Ht
    isplitl [Hc]; · iexact Hc
    isplitl [Hl] <;> iassumption
  isplitl [HO]
  · iexists W; iexact HO
  isplitl [Hx Hw]
  · isplitl [Hx] <;> iassumption
  iexact Ho

/-- An end is what the pipeline takes back. -/
theorem end_after (c : Dev nD) : iprop(Φ₁ c ∗ due c 0 ∗ Factors m ρ c ∗ outHas c (outAt m ρ c)) ⊢ after m ρ c := by
  unfold after Factors outHas due Dat.owesAt Pipeline.owesWithin
  rw [show (dats m ρ 0 c).owed t0_0.succ = 0 from rfl]
  iintro ⟨HP, ⟨%W, HO⟩, ⟨Hx, Hw⟩, Ho⟩
  isplitl [HP]; · iexact HP
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body runs from the one to the other. -/
theorem body_ok (c : Dev nD) (h0 : xM.IsWhole) (h1 : wM.IsWhole) (h2 : oM.IsWhole) (h3 : yM.IsWhole) :
    before m ρ c ⊢ Runs c (cc0_body (F := F) xM h0 wM h1 oM h2 yM h3 cc0_scratch1 cc0_scratch2) fun _ => after m ρ c := by
  refine (before_start m ρ c).trans ?_
  have e (K : Dev nD × CK → ℕ) (f : Buf (Elt F) ((c : Thread nD τ).loc cc0_stg2_0)) :
      iprop(recs m ρ K ∗ (poss c ∗ toks c ∗ credits c ∗ levAts L lv ∗ stack c) ∗ due c (O₀ c) ∗ Factors m ρ c ∗ outHas c f)
        ⊢ Runs c (cc0_body (F := F) xM h0 wM h1 oM h2 yM h3 cc0_scratch1 cc0_scratch2) fun _ => after m ρ c := by
    iintro H
    imod (begin_ok m ρ K f) $$ H with H
    iapply (body_run m ρ K h0 h1 h2 h3 ((finish_ok m ρ K).trans (end_after m ρ c)))
    iexact H
  exact exists_elim fun K => exists_elim fun f => e K f

set_option maxRecDepth 100000 in
/-- The body meets the pipeline's obligation on every device. -/
theorem obligation (c : Dev nD) : BodyObligation (dats (F := F) m ρ 0 c) (defs₀ (F := F)) 𝒱₀ () Set.univ := fun t => by
  rw [all_points t]
  rw [windows, windows]
  simp only [holds_eq]
  exact body_ok m ρ c (hstage0_0 0) (hstage0_1 0) (hstage0_2 0) (Memref.isWhole_whole cc0_scratch0)

end Cert.Exchange

end

end
-- ==== Proof.Launch.lean ====
/- The launch: the tokens, positions and credits dealt to the devices, the semaphores' invariants set up for all of
   them at once, and the run of the whole program. -/
module

public import Idealize.ShloMosaic.Lib.Tactic
public import Idealize.ShloMosaic.Lib.Pipeline.CollectiveSegs
public import proofs.«01_k».proof.Proof.Obligation

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and tokens, told apart -/

theorem sendS_inj {i j : Fin 15} (h : sendS i = sendS j) : i = j := by
  have := congrArg Fin.val h; simp only [sendS] at this
  exact Fin.ext (by omega)
theorem recvS_inj {d e : Dev nD} (h : recvS d = recvS e) : d = e := by
  have := congrArg Fin.val h; simp only [recvS] at this
  exact Fin.ext (by omega)
theorem send_ne_recv (j : Fin 15) (d : Dev nD) : sendS j ≠ recvS d := fun h => by
  have := congrArg Fin.val h; simp only [sendS, recvS] at this
  have := j.isLt; omega
theorem dma_inj {p q : DmaSem sig} (h : SemLoc.dma (sig := sig) p = .dma q) : p = q := by injection h

theorem bar_cell_inj {a b : Dev nD} (h : barCell a = barCell b) : a = b := congrArg (fun g : GSem nD τ sig => g.1.1) h
theorem send_cell_inj {a b : Dev nD} {i j : Fin 15} (h : sendCell a i = sendCell b j) : a = b ∧ i = j :=
  ⟨congrArg (fun g : GSem nD τ sig => g.1.1) h, sendS_inj (dma_inj (congrArg Prod.snd h))⟩
theorem recv_cell_inj {a b d e : Dev nD} (h : recvCell a d = recvCell b e) : a = b ∧ d = e :=
  ⟨congrArg (fun g : GSem nD τ sig => g.1.1) h, recvS_inj (dma_inj (congrArg Prod.snd h))⟩
theorem bar_ne_send (a b : Dev nD) (j : Fin 15) : barCell a ≠ sendCell b j := fun h => by
  have := congrArg Prod.snd h; cases this
theorem bar_ne_recv (a b d : Dev nD) : barCell a ≠ recvCell b d := fun h => by
  have := congrArg Prod.snd h; cases this
theorem send_cell_ne (a b d : Dev nD) (j : Fin 15) : sendCell a j ≠ recvCell b d :=
  fun h => send_ne_recv j d (dma_inj (congrArg Prod.snd h))

theorem kcell_inj : Function.Injective kcell := by
  rintro ⟨c, (⟨⟩ | i | d)⟩ ⟨c', (⟨⟩ | i' | d')⟩ h <;> simp only [kcell] at h
  · rw [bar_cell_inj h]
  · exact absurd h (bar_ne_send _ _ _)
  · exact absurd h (bar_ne_recv _ _ _)
  · exact absurd h.symm (bar_ne_send _ _ _)
  · obtain ⟨rfl, rfl⟩ := send_cell_inj h; rfl
  · exact absurd h (send_cell_ne _ _ _ _)
  · exact absurd h.symm (bar_ne_recv _ _ _)
  · exact absurd h.symm (send_cell_ne _ _ _ _)
  · obtain ⟨rfl, rfl⟩ := recv_cell_inj h; rfl

/-- A device's forty-five duties: to each peer a signal, a block out of its own memory, a block into the peer's. -/
abbrev Duty : Type := Fin 15 ⊕ (Fin 15 ⊕ Fin 15)
def tok (p : Dev nD × Duty) : GSem nD τ sig × ℕ × Fin 15 :=
  match p.2 with
  | .inl j => (barCell (sh p.1 j.val), 0, j)
  | .inr (.inl j) => (sendCell p.1 j, 0, 0)
  | .inr (.inr j) => (recvCell (sh p.1 j.val) p.1, 0, 0)

theorem tok_inj : Function.Injective tok := by
  rintro ⟨c, (j | j | j)⟩ ⟨c', (j' | j' | j')⟩ h <;>
    have hc := congrArg Prod.fst h <;> have hd := congrArg (fun x => x.2.2) h <;> dsimp only [tok] at hc hd
  · subst hd
    rw [show c = c' by rw [← src_sh c j, ← src_sh c' j, bar_cell_inj hc]]
  · exact absurd hc (bar_ne_send _ _ _)
  · exact absurd hc (bar_ne_recv _ _ _)
  · exact absurd hc.symm (bar_ne_send _ _ _)
  · obtain ⟨rfl, rfl⟩ := send_cell_inj hc; rfl
  · exact absurd hc (send_cell_ne _ _ _ _)
  · exact absurd hc.symm (bar_ne_recv _ _ _)
  · exact absurd hc.symm (send_cell_ne _ _ _ _)
  · obtain ⟨h, rfl⟩ := recv_cell_inj hc
    rw [sh_inj c h]

def exCells : Finset (GSem nD τ sig) := Finset.univ.map ⟨kcell, kcell_inj⟩
def exToks : Finset (GSem nD τ sig × ℕ × Fin 15) := Finset.univ.map ⟨tok, tok_inj⟩

/-- The pipeline's own launch element, and the exchange's. -/
def u₀ : UU := (initOf (Pipeline.cells cfgs cellOf_inj) (Pipeline.launchToks cfgs cellOf_inj), initOf exCells exToks)

/-! ## Dealing -/

section Deal
variable {M : Type} [URA M]
/-- A conjunction over a device's semaphores, kind by kind; -/
theorem bigSep_CK (Φ : CK → sProp M) : bigSep Finset.univ Φ
    = iprop(Φ (.inl ()) ∗ (bigSep Finset.univ fun j : Fin 15 => Φ (.inr (.inl j))) ∗ bigSep Finset.univ fun d : Dev nD => Φ (.inr (.inr d))) := by
  rw [BI.bigSep_univ_sum, BI.bigSep_univ_sum, BI.bigSep_univ_of_subsingleton ()]; rfl
/-- over its duties, kind by kind. -/
theorem bigSep_Duty (Φ : Duty → sProp M) : bigSep Finset.univ Φ
    = iprop((bigSep Finset.univ fun j : Fin 15 => Φ (.inl j)) ∗ (bigSep Finset.univ fun j : Fin 15 => Φ (.inr (.inl j)))
      ∗ bigSep Finset.univ fun j : Fin 15 => Φ (.inr (.inr j))) := by
  rw [BI.bigSep_univ_sum, BI.bigSep_univ_sum]; rfl
end Deal

/-- What each device is dealt: the state of its semaphores, its positions on them, the tokens of its duties. -/
def dealt (c : Dev nD) : sProp 𝕄 :=
  iprop((bigSep Finset.univ fun k : CK => roundState ER (exRd m ρ) (kcell (c, k)) 0)
    ∗ (bigSep Finset.univ fun k : CK => iprop(atPos ER (kcell (c, k)) 0 ∅ 0 ∗ reached ER (kcell (c, k)) 0)) ∗ toks c)

theorem deal : BI.own (ER (initOf exCells exToks)) ⊢ (|==> bigSep Finset.univ (dealt m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks SendToks; rw [bigSep_Duty]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores at launch -/

/-- The kernel's own semaphores: the fifteen for sends, the sixteen for receipts. -/
def osem (k : Fin 31) : SemLoc sig := .dma ⟨3 + k.val, by have := k.isLt; show 3 + k.val < 34; omega⟩

theorem ownSemFacts : Pipeline.OwnSemFacts cfg0.spec osem where
  isScoped := by decide
  inj i j h := by
    have := congrArg Fin.val (dma_inj h)
    exact Fin.ext (by simp only at this; omega)
  disj := by decide

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun d : Dev nD => semVal (recvCell c d) 0) := by
  have hr (d : Dev nD) : osem (finSumFinEquiv (m := 15) (n := 16) (.inr d)) = .dma (recvS d) := by
    unfold osem recvS
    refine congrArg SemLoc.dma (Fin.ext ?_)
    show 3 + (15 + d.val) = 18 + d.val
    omega
  unfold Pipeline.ownSems0
  rw [bigSep_univ_equiv (finSumFinEquiv (m := 15) (n := 16)), BI.bigSep_univ_sum]
  simp only [hr]
  rfl
omit [FloatOps F] in
/-- The barrier is the one semaphore that is not the launch's own. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem zeros_eq (c : Dev nD) :
    (iprop(unscopedSems0 c ∗ Pipeline.ownSems0 (Ix := Unit) (Name := ℕ) (U := UU) (Lvl := ℕ) (Val := Elt F) (τ := τ) osem c) : sProp 𝕄) = zeros c := by
  rw [ownSems_eq, unscopedSems_eq]; rfl

theorem start_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ toks c) := by
  have hz : iprop(unscopedSems0 c ∗ Pipeline.ownSems0 (Ix := Unit) (Name := ℕ) (U := UU) (Lvl := ℕ) (Val := Elt F) (τ := τ) osem c)
      ⊢ (bigSep Finset.univ fun k : CK => semVal (kcell (c, k)) 0 : sProp 𝕄) := by
    rw [zeros_eq, bigSep_CK]; exact .refl
  have hi : iprop((bigSep Finset.univ fun k : CK => semVal (kcell (c, k)) 0) ∗ bigSep Finset.univ fun k : CK => roundState ER (exRd m ρ) (kcell (c, k)) 0)
      ⊢ (|={Set.univ}=> bigSep Finset.univ fun k : CK => iprop(∃ κ : ℕ, cellInv ER (exRd m ρ) κ (kcell (c, k))) : sProp 𝕄) := by
    rw [← bigSep_sep']
    exact (bigSep_mono fun k _ => (Rounds.body_intro ER (exRd m ρ) (kcell (c, k))).trans inv_alloc).trans (bigSep_fupd _ _)
  unfold dealt
  iintro ⟨Hos, Hus, Hst, Hat, Htok⟩
  ihave Hv := hz $$ [Hos Hus]
  · isplitl [Hus] <;> iassumption
  imod hi $$ [Hv Hst] with Hinv
  · isplitl [Hv] <;> iassumption
  imodintro
  isplitl [Hinv]; · iexact Hinv
  isplitl [Hat]; · iexact Hat
  iexact Htok

omit [FloatOps F] in
theorem poss_eq (c : Dev nD) : (bigSep Finset.univ fun k : CK => (atPos ER (kcell (c, k)) 0 ∅ 0 : sProp 𝕄)) = poss c := by
  rw [bigSep_CK]; rfl

theorem to_ghost (K : Dev nD × CK → ℕ) (c : Dev nD) : iprop(recs m ρ K ∗ (poss c ∗ toks c)) ⊢ ghost m ρ c := by
  unfold ghost; iintro H; iexists K; iexact H

omit [FloatOps F] in
/-- A persistent fact goes to every place of a conjunction. -/
theorem to_each {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- The invariants set up on each device are shared with all. -/
theorem share_out :
    (bigSep Finset.univ fun c : Dev nD => iprop((bigSep Finset.univ fun k : CK => iprop(∃ κ : ℕ, cellInv ER (exRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (ghost m ρ) := by
  simp only [bigSep_sep', poss_eq]
  rw [← bigSep_univ_prod (fun p : Dev nD × CK => iprop(∃ κ : ℕ, cellInv ER (exRd m ρ) κ (kcell p))),
    ← bigSep_univ_prod (fun p : Dev nD × CK => (reached ER (kcell p) 0 : sProp 𝕄))]
  iintro ⟨HI, ⟨Hat, #HR⟩, Htok⟩
  ihave HK := (BI.bigSep_exists_pi Finset.univ (fun (p : Dev nD × CK) (κ : ℕ) => (cellInv ER (exRd m ρ) κ (kcell p) : sProp 𝕄))) $$ HI
  icases HK with ⟨%K, #HI⟩
  iapply (to_each (P := recs m ρ K) fun c _ => to_ghost m ρ K c)
  isplitr
  · unfold recs; isplitl; · iexact HI
    iexact HR
  · iapply (Entails.of_eq (bigSep_sep' Finset.univ (fun c : Dev nD => (poss c : sProp 𝕄)) toks).symm)
    isplitl [Hat]; · iexact Hat
    iexact Htok

theorem set_up : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost m ρ) :=
  ((bigSep_mono fun c _ => start_cells m ρ c).trans (bigSep_fupd _ _)).trans (BI.fupd_mono (share_out m ρ))

/-! ## The credit at launch -/

/-- What a sum of tallies, one to each peer, holds at one semaphore. -/
theorem sum_tally_at (cell : Fin 15 → GSem nD τ sig) (n : ℕ) (g : GSem nD τ sig) :
    (∑ j : Fin 15, (tallyAt (cell j) () n : CellTallies nD τ sig Unit)) g () = ∑ j : Fin 15, if cell j = g then n else 0 := by
  rw [Finset.sum_apply, Finsupp.finset_sum_apply]
  refine Finset.sum_congr rfl fun j _ => ?_
  rw [tallyAt_apply]
  by_cases h : cell j = g
  · rw [if_pos ⟨h.symm, rfl⟩, if_pos h]
  · rw [if_neg fun h' => h h'.1.symm, if_neg h]

theorem owed_at (d : Dev nD) (g : GSem nD τ sig) : O₀ d g ()
    = (∑ j : Fin 15, if recvCell (sh d j.val) d = g then N else 0) + ∑ j : Fin 15, if barCell (sh d j.val) = g then 1 else 0 := by
  unfold O₀ oSend oBar
  rw [progSum_zero, progSum_zero, Pi.add_apply, Finsupp.add_apply, sum_tally_at, sum_tally_at]

/-- Every barrier is owed fifteen signals; -/
theorem launched_bar (c : Dev nD) :
    tallyOn (barCell c) (launchCredit (Pipeline.owing O₀) 0 (barCell c)) = (tallyAt (barCell c) () 15 : CellTallies nD τ sig Unit) := by
  have e (d : Dev nD) : O₀ d (barCell c) () = ∑ j : Fin 15, if d = src c j.val then 1 else 0 := by
    rw [owed_at, Finset.sum_eq_zero fun j _ => if_neg fun h => bar_ne_recv _ _ _ h.symm, Nat.zero_add]
    refine Finset.sum_congr rfl fun j _ => if_congr ?_ rfl rfl
    exact ⟨fun h => (sh_eq_iff d c j).mp (bar_cell_inj h), fun h => by rw [(sh_eq_iff d c j).mpr h]⟩
  unfold tallyAt; refine congrArg _ (Finsupp.ext fun u => ?_); cases u
  rw [Pipeline.launchCredit_owing, Finsupp.single_eq_same, Finset.sum_congr rfl fun d _ => e d, Finset.sum_comm,
    Finset.sum_congr rfl fun j _ => (Finset.sum_ite_eq' Finset.univ (src c j.val) fun _ => 1).trans (if_pos (Finset.mem_univ _)),
    Finset.sum_const, Finset.card_univ, Fintype.card_fin, smul_eq_mul]

/-- every receive semaphore of a peer, one block. -/
theorem launched_recv (c : Dev nD) (i : Fin 15) :
    tallyOn (recvCell c (src c i.val)) (launchCredit (Pipeline.owing O₀) 0 (recvCell c (src c i.val)))
      = (tallyAt (recvCell c (src c i.val)) () N : CellTallies nD τ sig Unit) := by
  have e (d : Dev nD) : O₀ d (recvCell c (src c i.val)) () = if d = src c i.val then N else 0 := by
    rw [owed_at, Finset.sum_eq_zero (s := Finset.univ) (f := fun j : Fin 15 => if barCell (sh d j.val) = recvCell c (src c i.val) then 1 else 0)
      fun j _ => if_neg fun h => bar_ne_recv _ _ _ h, Nat.add_zero]
    by_cases h : d = src c i.val
    · subst h
      rw [if_pos rfl]
      refine (Finset.sum_eq_single i (fun j _ hj => if_neg fun h => hj ?_) fun h => absurd (Finset.mem_univ _) h).trans ?_
      · have h' := (recv_cell_inj h).1
        rw [sh_eq_iff] at h'
        exact src_inj c h'.symm
      · rw [sh_src, if_pos rfl]
    · rw [if_neg h]
      exact Finset.sum_eq_zero fun j _ => if_neg fun h' => h (recv_cell_inj h').2
  unfold tallyAt; refine congrArg _ (Finsupp.ext fun u => ?_); cases u
  rw [Pipeline.launchCredit_owing, Finsupp.single_eq_same, Finset.sum_congr rfl fun d _ => e d,
    Finset.sum_ite_eq' Finset.univ (src c i.val) fun _ => N, if_pos (Finset.mem_univ _)]

theorem recv_from_inj (c : Dev nD) : Function.Injective fun j : Fin 15 => SemLoc.dma (sig := sig) (recvS (src c j.val)) :=
  fun _ _ h => src_inj c (recvS_inj (dma_inj h))

omit [FloatOps F] in
theorem launched (c : Dev nD) : (Pipeline.launchCred O₀ c : sProp 𝕄) ⊢ credits c := by
  unfold Pipeline.launchCred credits
  rw [bigSep_univ_at _ (SemLoc.reg barS), launched_bar]
  refine sep_mono_right ?_
  refine (BI.bigSep_subset (t := Finset.univ.map ⟨_, recv_from_inj c⟩) fun sm h => ?_).trans ?_
  · obtain ⟨j, -, rfl⟩ := Finset.mem_map.mp h
    exact Finset.mem_erase.mpr ⟨(nofun), Finset.mem_univ _⟩
  · rw [bigSep_map]
    exact bigSep_mono fun j _ => Entails.of_eq (congrArg cred (launched_recv c j))

/-! ## The run -/

theorem dats_share (c : Dev nD) (w : Fin cfg0.W) : (dats m ρ 0 c).share w = fullShare := by unfold Dat.share; split <;> rfl

theorem to_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (launched (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ stack
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ stack
  rw [← zeros_eq]
  iintro ⟨Hr, HzB, Hz⟩
  isplitl [HzB]; · iexact HzB
  isplitl [Hz] <;> iassumption

theorem staging_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each window's array holds after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any floating-point values, from any memory and counters at zero: every fair run of the
    program ends, with each window's array at its final contents and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := dats_share m ρ)
    (hdistinct := winFacts0.arr_inj)
    (O₀ := O₀) (howed₀ := fun _ => rfl) (howedN := fun _ => rfl)
    (L := L) (lv := lv) (hL := L_of_ne) (hwaits := staging_waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := to_start m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end

end
-- ==== Proof.Value.lean ====
/- What the result arrays hold over the extended reals: on every device, its sixteenth of the columns of the whole
   product. -/
module

public import Idealize.ShloMosaic.Lib.MatmulPlain
public import Idealize.ShloMosaic.Lib.StackMember
public import proofs.«01_k».proof.Proof.Launch
public import proofs.«01_k».proof.Defs
public import proofs.«01_k».proof.Proof.Gen.ReferenceIdeal

@[expose] public section

noncomputable section

namespace Cert.Exchange

open Cert.KernelIdeal Cert.KernelIdeal.Gen
open Idealize.ShloMosaic
open Idealize.ShloMosaic.TcCoe
open Idealize.SL.Sem

/-! ## The arrays at the end, for any floating-point values -/

section Arrays

variable {F : FTy → Type} [FloatOps F]
variable (m : (ℓ : Loc nD τ sig) → Buf (Elt F) ℓ) (ρ : Dev nD → PrngReg)

/-- The staged copies of the two arguments are the arguments. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem wstg_eq (c : Dev nD) : wstg m ρ c = m ((c : Thread nD τ).loc main_arg1) :=
  Memref.read_access_unit_zero (Elt F) main_arg1 (funext fun a => by fin_cases a <;> decide) (fun a => by fin_cases a <;> decide) _

/-- Both arguments end as they began; -/
theorem final_x (c : Dev nD) : finalA m ρ c (0 : Fin 3) = m ((c : Thread nD τ).loc main_arg0) :=
  (dats m ρ 0 c).arrAt_in (0 : Fin 3) rfl _
theorem final_w (c : Dev nD) : finalA m ρ c (1 : Fin 3) = m ((c : Thread nD τ).loc main_arg1) :=
  (dats m ρ 0 c).arrAt_in (1 : Fin 3) rfl _

/-- the result ends as the blocks sent by the sixteen devices, one below the other. -/
theorem final_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      if_pos (by decide)]
    exact View.read_write_univ _ _
  rw [← h]
  exact (Memref.read_access_unit_zero (Elt F) main_v1 (funext fun a => by fin_cases a <;> decide) (fun a => by fin_cases a <;> decide) _).symm

/-- Every run ends, each device's result holding the blocks sent to it, both its arguments as they began, every
    semaphore at zero. -/
theorem run_arrays : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono
    (fun _ h => ⟨fun c => ⟨(h.1 c (2 : Fin 3)).trans (final_out m ρ c), (h.1 c (0 : Fin 3)).trans (final_x m ρ c),
      (h.1 c (1 : Fin 3)).trans (final_w m ρ c)⟩, h.2⟩)
    (run_main m ρ)

end Arrays

/-! ## The product, over the extended reals -/

variable (m : (ℓ : Loc nD τ sig) → Buf (Elt Ideal) ℓ) (ρ : Dev nD → PrngReg)

/-- The column of the whole product at column `j` of device `b`'s part. -/
def col (b : Dev nD) (j : Fin 64) : Fin 1024 := ⟨64 * b.val + j.val, by have := dev_lt b; omega⟩

theorem dot_plain : dot_S64x1024_S1024x1024_S64x1024_1_0_0_1_n_n = DotDims.plain 64 1024 1024 := rfl

/-- An entry of the kernel's product is the sum of products along the row and the column. -/
theorem product_at (x : FVec Ideal S64x1024 .f32) (w : FVec Ideal S1024x1024 .f32) (r : Fin 64) (j : Fin 1024) :
    k0_pay1 (F := Ideal) x w (ix2 r j) = ∑ k : Fin 1024, x (ix2 r k) * w (ix2 k j) := by
  unfold k0_pay1
  rw [shapeCast_self, shapeCast_self, dot_plain]
  have e {p q : ℕ} (a : Fin p) (b : Fin q) : ValueIdx.ix2 a b = ix2 a b := by
    rw [eq_ix2 (ValueIdx.ix2 a b)]; rfl
  refine ((congrArg _ (e r j).symm).trans (Ideal.matmul_plain_apply none x w _ r j)).trans ?_
  simp only [e]
  show Ideal.ofBits .f32 0x00000000#32 + _ = _
  rw [Ideal.ofBits_zero_f32, zero_add]

/-- An entry of the block that device `s` sends to device `b`. -/
theorem part_at (x : FVec Ideal S64x1024 .f32) (w : FVec Ideal S1024x1024 .f32) (s b : Dev nD)
    (hx : m ((s : Thread nD τ).loc main_arg0) = x) (hw : m ((s : Thread nD τ).loc main_arg1) = w) (r j : Fin 64) :
    part m ρ s b (ix2 r j) = ∑ k : Fin 1024, x (ix2 r k) * w (ix2 k (col b j)) := by
  unfold part prod
  rw [xstg_eq, wstg_eq, hx, hw]
  refine Eq.trans ?_ (product_at x w r (col b j))
  refine congrArg (k0_pay1 (F := Ideal) x w) (funext fun a => Fin.ext ?_)
  fin_cases a
  · exact Nat.zero_add _
  · rfl

/-- An entry of the reference's product. -/
theorem reference_at (x w : FVec Ideal ⟨2, ![1024, 1024]⟩ .f32) (i j : Fin 1024) :
    Host.dotGeneral Cert.ReferenceIdeal.dot_S1024x1024_S1024x1024_S1024x1024_1_0_0_1_n_n none x w (ix2 i j)
      = ∑ k : Fin 1024, x (ix2 i k) * w (ix2 k j) :=
  StackMember.dotGeneral_plain_apply none x w i j

/-- Where every device holds its rows of `x` and the whole of `w`, it ends holding its columns of their product. -/
theorem result_eq (x w : FVec Ideal ⟨2, ![1024, 1024]⟩ .f32)
    (hx : ∀ c : Dev nD, m ((c : Thread nD τ).loc main_arg0) = Layout.block ⟨2, ![64, 1024]⟩ ⟨2, ![1024, 1024]⟩ 0 16 c x)
    (hw : ∀ c : Dev nD, m ((c : Thread nD τ).loc main_arg1) = w) (c : Dev nD) :
    outAt m ρ c = Layout.block ⟨2, ![1024, 64]⟩ ⟨2, ![1024, 1024]⟩ 1 16 c
      (Host.dotGeneral Cert.ReferenceIdeal.dot_S1024x1024_S1024x1024_S1024x1024_1_0_0_1_n_n none x w) := by
  funext i
  have hi : (i 0).val < 1024 := (i 0).isLt
  have hj : (i 1).val < 64 := (i 1).isLt
  have hd (h : Layout.Tiles ⟨2, ![1024, 64]⟩ ⟨2, ![1024, 1024]⟩ 1 16) :
      h.idx c i = ix2 (⟨(i 0).val, hi⟩ : Fin 1024) (col c ⟨(i 1).val, hj⟩) := by
    refine funext fun a => Fin.ext ?_
    fin_cases a
    · rfl
    · show c.val * 64 + (i 1).val = 64 * c.val + (i 1).val
      omega
  unfold outAt whole
  refine (part_at m ρ _ w _ c (hx _) (hw _) _ ⟨(i 1).val, hj⟩).trans ?_
  rw [Layout.block_apply, hd, reference_at]
  refine Finset.sum_congr rfl fun k _ => congrArg (· * _) ?_
  rw [Layout.block_apply]
  refine congrArg x (funext fun a => Fin.ext ?_)
  fin_cases a
  · show (i 0).val / 64 * 64 + (i 0).val % 64 = (i 0).val
    omega
  · rfl

end Cert.Exchange

end

end
-- ==== Proof.Same.lean ====
/- The kernel's program on float words and its reading over the extended reals have the same text: on float words, the
   tables of bodies they call are equal. -/
module

public import proofs.«01_k».proof.Defs
public import proofs.«01_k».proof.Proof.Gen.Kernel
public import proofs.«01_k».proof.Proof.Gen.KernelIdeal

@[expose] public section

noncomputable section

namespace Cert.Exchange

open Idealize.ShloMosaic

/-- The kernel's body is the same in both programs; -/
theorem same_bodies : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun x => ?_)
  match l, x with
  | ⟨0, _⟩, (t, s) => rfl

/-- so is the table with the call's own bodies added. -/
theorem same_defs : Cert.Kernel.defs (F := Bits) = Cert.KernelIdeal.defs (F := Bits) :=
  congrArg (Pipeline.defs (Cert.KernelIdeal.pcfgs (F := Bits))) same_bodies

end Cert.Exchange

end

end
-- ==== Proof.lean ====
/- The five claims: both programs' runs and the reference's end with the arguments unchanged and every semaphore at
   zero; the kernel's program read over the extended reals is the same text; and it computes the reference's product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

/-- The kernel, on float words: every run ends, the arguments unchanged, the semaphores at zero. -/
theorem frame_kernel : Cert.quiescent_Kernel := fun m ρ _ => by
  rw [Cert.Exchange.same_defs]
  exact (θ_run Cert.KernelIdeal.defs _ _).mono (fun _ h => ⟨fun c => (h.1 c).2, h.2⟩) (Cert.Exchange.run_arrays (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.Exchange.run_arrays (F := Ideal) m ρ)

/-- The reference: every run ends, the arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every device ends holding its columns of the reference's product. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨(h.1 c).1.trans (Cert.Exchange.result_eq m ρ _ _ (fun d => (hagree d).1) (fun d => (hagree d).2) c), (h.1 c).2⟩)
    (Cert.Exchange.run_arrays (F := Ideal) m ρ)

theorem claim : Cert.Claim := ⟨Cert.Kernel.Gen.facts, Cert.KernelIdeal.Gen.facts, Cert.ReferenceIdeal.Gen.facts,
  frame_kernel, frame_ideal, frame_reference, trivial, value⟩

end Cert.Proof

end
